-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Vt (m : (ℓ : Loc Cert.Vt.nD Cert.Vt.τ Cert.Vt.sig) → Buf (Elt Bits) ℓ) : Prop :=
  True

def Pre_VtIdeal (m : (ℓ : Loc Cert.VtIdeal.nD Cert.VtIdeal.τ Cert.VtIdeal.sig) → Buf (Elt Ideal) ℓ) : Prop :=
  True

def Pre_VtReferenceIdeal (m : (ℓ : Loc Cert.VtReferenceIdeal.nD Cert.VtReferenceIdeal.τ Cert.VtReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_DownTwo (m : (ℓ : Loc Cert.DownTwo.nD Cert.DownTwo.τ Cert.DownTwo.sig) → Buf (Elt Bits) ℓ) : Prop :=
  True

def Pre_DownTwoIdeal (m : (ℓ : Loc Cert.DownTwoIdeal.nD Cert.DownTwoIdeal.τ Cert.DownTwoIdeal.sig) → Buf (Elt Ideal) ℓ) : Prop :=
  True

def Pre_DownTwoReferenceIdeal (m : (ℓ : Loc Cert.DownTwoReferenceIdeal.nD Cert.DownTwoReferenceIdeal.τ Cert.DownTwoReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_finite [hPre_finite : Cert.Pre_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2))).1 = (fun _ => 1#1)
    ∧ (Cert.Pre_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Vt [hVt : Cert.Vt.Facts] : Prop :=
  ∀ (m : (ℓ : Loc Cert.Vt.nD Cert.Vt.τ Cert.Vt.sig) → Buf (Elt Bits) ℓ) (g : Dev Cert.Vt.nD → PrngReg), Pre_Vt m →
    θ_run (Cert.Vt.defs (F := Bits)) (onTc (τ := Cert.Vt.τ) (Cert.Vt.main (F := Bits))) ⟨m, fun _ => 0, g⟩ (fun r => (∀ c : Dev Cert.Vt.nD,
      r.2.mem ((c.tc : Thread Cert.Vt.nD Cert.Vt.τ).loc Cert.Vt.main_arg0) = m ((c.tc : Thread Cert.Vt.nD Cert.Vt.τ).loc Cert.Vt.main_arg0)
      ∧ r.2.mem ((c.tc : Thread Cert.Vt.nD Cert.Vt.τ).loc Cert.Vt.main_arg1) = m ((c.tc : Thread Cert.Vt.nD Cert.Vt.τ).loc Cert.Vt.main_arg1))
      ∧ r.2.sem = fun _ => 0)

def quiescent_VtIdeal [hVtIdeal : Cert.VtIdeal.Facts] : Prop :=
  ∀ (m : (ℓ : Loc Cert.VtIdeal.nD Cert.VtIdeal.τ Cert.VtIdeal.sig) → Buf (Elt Ideal) ℓ) (g : Dev Cert.VtIdeal.nD → PrngReg), Pre_VtIdeal m →
    θ_run (Cert.VtIdeal.defs (F := Ideal)) (onTc (τ := Cert.VtIdeal.τ) (Cert.VtIdeal.main (F := Ideal))) ⟨m, fun _ => 0, g⟩ (fun r => (∀ c : Dev Cert.VtIdeal.nD,
      r.2.mem ((c.tc : Thread Cert.VtIdeal.nD Cert.VtIdeal.τ).loc Cert.VtIdeal.main_arg0) = m ((c.tc : Thread Cert.VtIdeal.nD Cert.VtIdeal.τ).loc Cert.VtIdeal.main_arg0)
      ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ r.2.sem = fun _ => 0)

def quiescent_VtReferenceIdeal [hVtReferenceIdeal : Cert.VtReferenceIdeal.Facts] : Prop :=
  ∀ (m : (ℓ : Loc Cert.VtReferenceIdeal.nD Cert.VtReferenceIdeal.τ Cert.VtReferenceIdeal.sig) → Buf (Elt Ideal) ℓ) (g : Dev Cert.VtReferenceIdeal.nD → PrngReg), Pre_VtReferenceIdeal m →
    θ_run (Cert.VtReferenceIdeal.defs (F := Ideal)) (onTc (τ := Cert.VtReferenceIdeal.τ) (Cert.VtReferenceIdeal.main (F := Ideal))) ⟨m, fun _ => 0, g⟩ (fun r => (∀ c : Dev Cert.VtReferenceIdeal.nD,
      r.2.mem ((c.tc : Thread Cert.VtReferenceIdeal.nD Cert.VtReferenceIdeal.τ).loc Cert.VtReferenceIdeal.main_arg0) = m ((c.tc : Thread Cert.VtReferenceIdeal.nD Cert.VtReferenceIdeal.τ).loc Cert.VtReferenceIdeal.main_arg0)
      ∧ r.2.mem ((c.tc : Thread Cert.VtReferenceIdeal.nD Cert.VtReferenceIdeal.τ).loc Cert.VtReferenceIdeal.main_arg1) = m ((c.tc : Thread Cert.VtReferenceIdeal.nD Cert.VtReferenceIdeal.τ).loc Cert.VtReferenceIdeal.main_arg1))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1))
      ∧ r.2.sem = fun _ => 0)

def quiescent_DownTwo [hDownTwo : Cert.DownTwo.Facts] : Prop :=
  ∀ (m : (ℓ : Loc Cert.DownTwo.nD Cert.DownTwo.τ Cert.DownTwo.sig) → Buf (Elt Bits) ℓ) (g : Dev Cert.DownTwo.nD → PrngReg), Pre_DownTwo m →
    θ_run (Cert.DownTwo.defs (F := Bits)) (onTc (τ := Cert.DownTwo.τ) (Cert.DownTwo.main (F := Bits))) ⟨m, fun _ => 0, g⟩ (fun r => (∀ c : Dev Cert.DownTwo.nD,
      r.2.mem ((c.tc : Thread Cert.DownTwo.nD Cert.DownTwo.τ).loc Cert.DownTwo.main_arg0) = m ((c.tc : Thread Cert.DownTwo.nD Cert.DownTwo.τ).loc Cert.DownTwo.main_arg0)
      ∧ r.2.mem ((c.tc : Thread Cert.DownTwo.nD Cert.DownTwo.τ).loc Cert.DownTwo.main_arg1) = m ((c.tc : Thread Cert.DownTwo.nD Cert.DownTwo.τ).loc Cert.DownTwo.main_arg1)
      ∧ r.2.mem ((c.tc : Thread Cert.DownTwo.nD Cert.DownTwo.τ).loc Cert.DownTwo.main_arg2) = m ((c.tc : Thread Cert.DownTwo.nD Cert.DownTwo.τ).loc Cert.DownTwo.main_arg2))
      ∧ r.2.sem = fun _ => 0)

def quiescent_DownTwoIdeal [hDownTwoIdeal : Cert.DownTwoIdeal.Facts] : Prop :=
  ∀ (m : (ℓ : Loc Cert.DownTwoIdeal.nD Cert.DownTwoIdeal.τ Cert.DownTwoIdeal.sig) → Buf (Elt Ideal) ℓ) (g : Dev Cert.DownTwoIdeal.nD → PrngReg), Pre_DownTwoIdeal m →
    θ_run (Cert.DownTwoIdeal.defs (F := Ideal)) (onTc (τ := Cert.DownTwoIdeal.τ) (Cert.DownTwoIdeal.main (F := Ideal))) ⟨m, fun _ => 0, g⟩ (fun r => (∀ c : Dev Cert.DownTwoIdeal.nD,
      r.2.mem ((c.tc : Thread Cert.DownTwoIdeal.nD Cert.DownTwoIdeal.τ).loc Cert.DownTwoIdeal.main_arg0) = m ((c.tc : Thread Cert.DownTwoIdeal.nD Cert.DownTwoIdeal.τ).loc Cert.DownTwoIdeal.main_arg0)
      ∧ r.2.mem ((c.tc : Thread Cert.DownTwoIdeal.nD Cert.DownTwoIdeal.τ).loc Cert.DownTwoIdeal.main_arg1) = m ((c.tc : Thread Cert.DownTwoIdeal.nD Cert.DownTwoIdeal.τ).loc Cert.DownTwoIdeal.main_arg1)
      ∧ r.2.mem ((c.tc : Thread Cert.DownTwoIdeal.nD Cert.DownTwoIdeal.τ).loc Cert.DownTwoIdeal.main_arg2) = m ((c.tc : Thread Cert.DownTwoIdeal.nD Cert.DownTwoIdeal.τ).loc Cert.DownTwoIdeal.main_arg2))
      ∧ r.2.sem = fun _ => 0)

def quiescent_DownTwoReferenceIdeal [hDownTwoReferenceIdeal : Cert.DownTwoReferenceIdeal.Facts] : Prop :=
  ∀ (m : (ℓ : Loc Cert.DownTwoReferenceIdeal.nD Cert.DownTwoReferenceIdeal.τ Cert.DownTwoReferenceIdeal.sig) → Buf (Elt Ideal) ℓ) (g : Dev Cert.DownTwoReferenceIdeal.nD → PrngReg), Pre_DownTwoReferenceIdeal m →
    θ_run (Cert.DownTwoReferenceIdeal.defs (F := Ideal)) (onTc (τ := Cert.DownTwoReferenceIdeal.τ) (Cert.DownTwoReferenceIdeal.main (F := Ideal))) ⟨m, fun _ => 0, g⟩ (fun r => (∀ c : Dev Cert.DownTwoReferenceIdeal.nD,
      r.2.mem ((c.tc : Thread Cert.DownTwoReferenceIdeal.nD Cert.DownTwoReferenceIdeal.τ).loc Cert.DownTwoReferenceIdeal.main_arg0) = m ((c.tc : Thread Cert.DownTwoReferenceIdeal.nD Cert.DownTwoReferenceIdeal.τ).loc Cert.DownTwoReferenceIdeal.main_arg0)
      ∧ r.2.mem ((c.tc : Thread Cert.DownTwoReferenceIdeal.nD Cert.DownTwoReferenceIdeal.τ).loc Cert.DownTwoReferenceIdeal.main_arg1) = m ((c.tc : Thread Cert.DownTwoReferenceIdeal.nD Cert.DownTwoReferenceIdeal.τ).loc Cert.DownTwoReferenceIdeal.main_arg1)
      ∧ r.2.mem ((c.tc : Thread Cert.DownTwoReferenceIdeal.nD Cert.DownTwoReferenceIdeal.τ).loc Cert.DownTwoReferenceIdeal.main_arg2) = m ((c.tc : Thread Cert.DownTwoReferenceIdeal.nD Cert.DownTwoReferenceIdeal.τ).loc Cert.DownTwoReferenceIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def quiescent_MlaReferenceIdeal_pre_finite [hMlaReferenceIdeal : Cert.MlaReferenceIdeal.Facts] [hPre_finite : Cert.Pre_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v12)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v12) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v24) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v7) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Vt_VtIdeal : Prop :=
  True

def algebraic_VtIdeal_VtReferenceIdeal [hVtIdeal : Cert.VtIdeal.Facts] [hVtReferenceIdeal : Cert.VtReferenceIdeal.Facts] : Prop :=
  ∀ (m : (ℓ : Loc Cert.VtIdeal.nD Cert.VtIdeal.τ Cert.VtIdeal.sig) → Buf (Elt Ideal) ℓ) (g : Dev Cert.VtIdeal.nD → PrngReg)
    (m' : (ℓ : Loc Cert.VtReferenceIdeal.nD Cert.VtReferenceIdeal.τ Cert.VtReferenceIdeal.sig) → Buf (Elt Ideal) ℓ) (g' : Dev Cert.VtReferenceIdeal.nD → PrngReg), Pre_VtIdeal m →
    (∀ c : Dev Cert.VtIdeal.nD,
      m' ((c.tc : Thread Cert.VtReferenceIdeal.nD Cert.VtReferenceIdeal.τ).loc Cert.VtReferenceIdeal.main_arg0) = m ((c.tc : Thread Cert.VtIdeal.nD Cert.VtIdeal.τ).loc Cert.VtIdeal.main_arg0)
      ∧ m' ((c.tc : Thread Cert.VtReferenceIdeal.nD Cert.VtReferenceIdeal.τ).loc Cert.VtReferenceIdeal.main_arg1) = m ((c.tc : Thread Cert.VtIdeal.nD Cert.VtIdeal.τ).loc Cert.VtIdeal.main_arg1)) →
    ∃ (v0 : (c : Dev Cert.VtIdeal.nD) → Buf (Elt Ideal) ((c.tc : Thread Cert.VtIdeal.nD Cert.VtIdeal.τ).loc Cert.VtIdeal.main_v2)),
      θ_run (Cert.VtIdeal.defs (F := Ideal)) (onTc (τ := Cert.VtIdeal.τ) (Cert.VtIdeal.main (F := Ideal))) ⟨m, fun _ => 0, g⟩ (fun r => ∀ c : Dev Cert.VtIdeal.nD,
          r.2.mem ((c.tc : Thread Cert.VtIdeal.nD Cert.VtIdeal.τ).loc Cert.VtIdeal.main_v2) = v0 c
          ∧ r.2.mem ((c.tc : Thread Cert.VtIdeal.nD Cert.VtIdeal.τ).loc Cert.VtIdeal.main_arg0) = m ((c.tc : Thread Cert.VtIdeal.nD Cert.VtIdeal.τ).loc Cert.VtIdeal.main_arg0)
          ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ θ_run (Cert.VtReferenceIdeal.defs (F := Ideal)) (onTc (τ := Cert.VtReferenceIdeal.τ) (Cert.VtReferenceIdeal.main (F := Ideal))) ⟨m', fun _ => 0, g'⟩ (fun r => ∀ c : Dev Cert.VtReferenceIdeal.nD,
          r.2.mem ((c.tc : Thread Cert.VtReferenceIdeal.nD Cert.VtReferenceIdeal.τ).loc Cert.VtReferenceIdeal.main_v7) = v0 c
          ∧ r.2.mem ((c.tc : Thread Cert.VtReferenceIdeal.nD Cert.VtReferenceIdeal.τ).loc Cert.VtReferenceIdeal.main_arg0) = m' ((c.tc : Thread Cert.VtReferenceIdeal.nD Cert.VtReferenceIdeal.τ).loc Cert.VtReferenceIdeal.main_arg0)
          ∧ r.2.mem ((c.tc : Thread Cert.VtReferenceIdeal.nD Cert.VtReferenceIdeal.τ).loc Cert.VtReferenceIdeal.main_arg1) = m' ((c.tc : Thread Cert.VtReferenceIdeal.nD Cert.VtReferenceIdeal.τ).loc Cert.VtReferenceIdeal.main_arg1))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)) →
    ∃ (v0 : (c : Dev Cert.LatentIdeal.nD) → Buf (Elt Ideal) ((c.tc : Thread Cert.LatentIdeal.nD Cert.LatentIdeal.τ).loc Cert.LatentIdeal.main_v2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v2) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v5) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1))

def preserves_DownTwo_DownTwoIdeal : Prop :=
  True

def algebraic_DownTwoIdeal_DownTwoReferenceIdeal [hDownTwoIdeal : Cert.DownTwoIdeal.Facts] [hDownTwoReferenceIdeal : Cert.DownTwoReferenceIdeal.Facts] : Prop :=
  ∀ (m : (ℓ : Loc Cert.DownTwoIdeal.nD Cert.DownTwoIdeal.τ Cert.DownTwoIdeal.sig) → Buf (Elt Ideal) ℓ) (g : Dev Cert.DownTwoIdeal.nD → PrngReg)
    (m' : (ℓ : Loc Cert.DownTwoReferenceIdeal.nD Cert.DownTwoReferenceIdeal.τ Cert.DownTwoReferenceIdeal.sig) → Buf (Elt Ideal) ℓ) (g' : Dev Cert.DownTwoReferenceIdeal.nD → PrngReg), Pre_DownTwoIdeal m →
    (∀ c : Dev Cert.DownTwoIdeal.nD,
      m' ((c.tc : Thread Cert.DownTwoReferenceIdeal.nD Cert.DownTwoReferenceIdeal.τ).loc Cert.DownTwoReferenceIdeal.main_arg0) = m ((c.tc : Thread Cert.DownTwoIdeal.nD Cert.DownTwoIdeal.τ).loc Cert.DownTwoIdeal.main_arg0)
      ∧ m' ((c.tc : Thread Cert.DownTwoReferenceIdeal.nD Cert.DownTwoReferenceIdeal.τ).loc Cert.DownTwoReferenceIdeal.main_arg1) = m ((c.tc : Thread Cert.DownTwoIdeal.nD Cert.DownTwoIdeal.τ).loc Cert.DownTwoIdeal.main_arg1)
      ∧ m' ((c.tc : Thread Cert.DownTwoReferenceIdeal.nD Cert.DownTwoReferenceIdeal.τ).loc Cert.DownTwoReferenceIdeal.main_arg2) = m ((c.tc : Thread Cert.DownTwoIdeal.nD Cert.DownTwoIdeal.τ).loc Cert.DownTwoIdeal.main_arg2)) →
    ∃ (v0 : (c : Dev Cert.DownTwoIdeal.nD) → Buf (Elt Ideal) ((c.tc : Thread Cert.DownTwoIdeal.nD Cert.DownTwoIdeal.τ).loc Cert.DownTwoIdeal.main_v4_0)) (v1 : (c : Dev Cert.DownTwoIdeal.nD) → Buf (Elt Ideal) ((c.tc : Thread Cert.DownTwoIdeal.nD Cert.DownTwoIdeal.τ).loc Cert.DownTwoIdeal.main_v4_1)),
      θ_run (Cert.DownTwoIdeal.defs (F := Ideal)) (onTc (τ := Cert.DownTwoIdeal.τ) (Cert.DownTwoIdeal.main (F := Ideal))) ⟨m, fun _ => 0, g⟩ (fun r => ∀ c : Dev Cert.DownTwoIdeal.nD,
          r.2.mem ((c.tc : Thread Cert.DownTwoIdeal.nD Cert.DownTwoIdeal.τ).loc Cert.DownTwoIdeal.main_v4_0) = v0 c
          ∧ r.2.mem ((c.tc : Thread Cert.DownTwoIdeal.nD Cert.DownTwoIdeal.τ).loc Cert.DownTwoIdeal.main_v4_1) = v1 c
          ∧ r.2.mem ((c.tc : Thread Cert.DownTwoIdeal.nD Cert.DownTwoIdeal.τ).loc Cert.DownTwoIdeal.main_arg0) = m ((c.tc : Thread Cert.DownTwoIdeal.nD Cert.DownTwoIdeal.τ).loc Cert.DownTwoIdeal.main_arg0)
          ∧ r.2.mem ((c.tc : Thread Cert.DownTwoIdeal.nD Cert.DownTwoIdeal.τ).loc Cert.DownTwoIdeal.main_arg1) = m ((c.tc : Thread Cert.DownTwoIdeal.nD Cert.DownTwoIdeal.τ).loc Cert.DownTwoIdeal.main_arg1)
          ∧ r.2.mem ((c.tc : Thread Cert.DownTwoIdeal.nD Cert.DownTwoIdeal.τ).loc Cert.DownTwoIdeal.main_arg2) = m ((c.tc : Thread Cert.DownTwoIdeal.nD Cert.DownTwoIdeal.τ).loc Cert.DownTwoIdeal.main_arg2))
      ∧ θ_run (Cert.DownTwoReferenceIdeal.defs (F := Ideal)) (onTc (τ := Cert.DownTwoReferenceIdeal.τ) (Cert.DownTwoReferenceIdeal.main (F := Ideal))) ⟨m', fun _ => 0, g'⟩ (fun r => ∀ c : Dev Cert.DownTwoReferenceIdeal.nD,
          r.2.mem ((c.tc : Thread Cert.DownTwoReferenceIdeal.nD Cert.DownTwoReferenceIdeal.τ).loc Cert.DownTwoReferenceIdeal.main_v8) = v0 c
          ∧ r.2.mem ((c.tc : Thread Cert.DownTwoReferenceIdeal.nD Cert.DownTwoReferenceIdeal.τ).loc Cert.DownTwoReferenceIdeal.main_v9) = v1 c
          ∧ r.2.mem ((c.tc : Thread Cert.DownTwoReferenceIdeal.nD Cert.DownTwoReferenceIdeal.τ).loc Cert.DownTwoReferenceIdeal.main_arg0) = m' ((c.tc : Thread Cert.DownTwoReferenceIdeal.nD Cert.DownTwoReferenceIdeal.τ).loc Cert.DownTwoReferenceIdeal.main_arg0)
          ∧ r.2.mem ((c.tc : Thread Cert.DownTwoReferenceIdeal.nD Cert.DownTwoReferenceIdeal.τ).loc Cert.DownTwoReferenceIdeal.main_arg1) = m' ((c.tc : Thread Cert.DownTwoReferenceIdeal.nD Cert.DownTwoReferenceIdeal.τ).loc Cert.DownTwoReferenceIdeal.main_arg1)
          ∧ r.2.mem ((c.tc : Thread Cert.DownTwoReferenceIdeal.nD Cert.DownTwoReferenceIdeal.τ).loc Cert.DownTwoReferenceIdeal.main_arg2) = m' ((c.tc : Thread Cert.DownTwoReferenceIdeal.nD Cert.DownTwoReferenceIdeal.τ).loc Cert.DownTwoReferenceIdeal.main_arg2))

def preserves_Mla_MlaIdeal : Prop :=
  True

def algebraic_MlaIdeal_MlaReferenceIdeal_pre_finite [hMlaIdeal : Cert.MlaIdeal.Facts] [hMlaReferenceIdeal : Cert.MlaReferenceIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_finite m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v16)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v16) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v17) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hVt : Cert.Vt.Facts) (hVtIdeal : Cert.VtIdeal.Facts) (hVtReferenceIdeal : Cert.VtReferenceIdeal.Facts) (hLatent : Cert.Latent.Facts) (hLatentIdeal : Cert.LatentIdeal.Facts) (hLatentReferenceIdeal : Cert.LatentReferenceIdeal.Facts) (hDownTwo : Cert.DownTwo.Facts) (hDownTwoIdeal : Cert.DownTwoIdeal.Facts) (hDownTwoReferenceIdeal : Cert.DownTwoReferenceIdeal.Facts) (hMla : Cert.Mla.Facts) (hMlaIdeal : Cert.MlaIdeal.Facts) (hMlaReferenceIdeal : Cert.MlaReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_Vt (hVt := hVt)
    ∧ quiescent_VtIdeal (hVtIdeal := hVtIdeal)
    ∧ quiescent_VtReferenceIdeal (hVtReferenceIdeal := hVtReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_DownTwo (hDownTwo := hDownTwo)
    ∧ quiescent_DownTwoIdeal (hDownTwoIdeal := hDownTwoIdeal)
    ∧ quiescent_DownTwoReferenceIdeal (hDownTwoReferenceIdeal := hDownTwoReferenceIdeal)
    ∧ quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaReferenceIdeal (hMlaReferenceIdeal := hMlaReferenceIdeal)
    ∧ quiescent_MlaReferenceIdeal_pre_finite (hMlaReferenceIdeal := hMlaReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_Vt_VtIdeal
    ∧ algebraic_VtIdeal_VtReferenceIdeal (hVtIdeal := hVtIdeal) (hVtReferenceIdeal := hVtReferenceIdeal)
    ∧ preserves_Latent_LatentIdeal
    ∧ algebraic_LatentIdeal_LatentReferenceIdeal (hLatentIdeal := hLatentIdeal) (hLatentReferenceIdeal := hLatentReferenceIdeal)
    ∧ preserves_DownTwo_DownTwoIdeal
    ∧ algebraic_DownTwoIdeal_DownTwoReferenceIdeal (hDownTwoIdeal := hDownTwoIdeal) (hDownTwoReferenceIdeal := hDownTwoReferenceIdeal)
    ∧ preserves_Mla_MlaIdeal
    ∧ algebraic_MlaIdeal_MlaReferenceIdeal_pre_finite (hMlaIdeal := hMlaIdeal) (hMlaReferenceIdeal := hMlaReferenceIdeal) (hPre_finite := hPre_finite)
-- ==== Pre_finite.lean ====
abbrev S3x8192x16x192 : Shape := ⟨4, ![3, 8192, 16, 192]⟩
abbrev S3x8192x16x128 : Shape := ⟨4, ![3, 8192, 16, 128]⟩
abbrev S_ : Shape := ⟨0, ![]⟩

class Facts : Prop where
  bcast_S_S3x8192x16x192 : S_.BroadcastsInDim S3x8192x16x192 (![] : Fin 0 → Fin S3x8192x16x192.rank)

variable [Facts]

def fn {F : FTy → Type} [FloatOps F] (main_arg0 : FVec F S3x8192x16x192 .f32) (main_arg1 : FVec F S3x8192x16x192 .f32) (main_arg2 : FVec F S3x8192x16x128 .f32) : IVec S3x8192x16x192 1 × IVec S3x8192x16x192 1 :=
  let main_v0 : FVec F S3x8192x16x192 .f32 := Host.absf main_arg0
  let main_cst : FVec F S_ .f32 := constant S_ .f32 0x7F800000#32
  let main_v1 : FVec F S3x8192x16x192 .f32 := broadcastInDim S3x8192x16x192 ![] bcast_S_S3x8192x16x192 main_cst
  let main_v2 : IVec S3x8192x16x192 1 := cmpf .olt main_v0 main_v1
  let main_v3 : FVec F S3x8192x16x192 .f32 := Host.absf main_arg1
  let main_cst_0 : FVec F S_ .f32 := constant S_ .f32 0x7F800000#32
  let main_v4 : FVec F S3x8192x16x192 .f32 := broadcastInDim S3x8192x16x192 ![] bcast_S_S3x8192x16x192 main_cst_0
  let main_v5 : IVec S3x8192x16x192 1 := cmpf .olt main_v3 main_v4
  (main_v2, main_v5)
-- ==== Kernel.lean ====
abbrev S24576x4096 : Shape := ⟨2, ![24576, 4096]⟩
abbrev S24576x2048 : Shape := ⟨2, ![24576, 2048]⟩
abbrev S24576x768 : Shape := ⟨2, ![24576, 768]⟩
abbrev S2x4096x26944 : Shape := ⟨3, ![2, 4096, 26944]⟩
abbrev S2x2048x4096 : Shape := ⟨3, ![2, 2048, 4096]⟩
abbrev S2x768x4096 : Shape := ⟨3, ![2, 768, 4096]⟩
abbrev S2x26944x4096 : Shape := ⟨3, ![2, 26944, 4096]⟩
abbrev S4096x12288 : Shape := ⟨2, ![4096, 12288]⟩
abbrev S1x512x1024 : Shape := ⟨3, ![1, 512, 1024]⟩
abbrev S1024x512 : Shape := ⟨2, ![1024, 512]⟩
abbrev S512x1024 : Shape := ⟨2, ![512, 1024]⟩
abbrev S2048x4096 : Shape := ⟨2, ![2048, 4096]⟩
abbrev S1x2048x512 : Shape := ⟨3, ![1, 2048, 512]⟩
abbrev S2048x512 : Shape := ⟨2, ![2048, 512]⟩
abbrev S768x4096 : Shape := ⟨2, ![768, 4096]⟩
abbrev S1x768x512 : Shape := ⟨3, ![1, 768, 512]⟩
abbrev S768x512 : Shape := ⟨2, ![768, 512]⟩
abbrev S768x2048 : Shape := ⟨2, ![768, 2048]⟩
abbrev S768x768 : Shape := ⟨2, ![768, 768]⟩
abbrev S4096x256 : Shape := ⟨2, ![4096, 256]⟩
abbrev S2048x256 : Shape := ⟨2, ![2048, 256]⟩
abbrev S768x256 : Shape := ⟨2, ![768, 256]⟩

abbrev nBuf : Space → Nat
  | .hbm => 14
  | .vmem => 38
  | .smem => 0
  | _ => 0

abbrev bufTy : (tb : Table) → Fin (tcTables nBuf tb) → BufTy
  | .hbm, ⟨0, _⟩ => ⟨S24576x4096, .bf16⟩
  | .hbm, ⟨1, _⟩ => ⟨S24576x2048, .bf16⟩
  | .hbm, ⟨2, _⟩ => ⟨S24576x768, .bf16⟩
  | .hbm, ⟨3, _⟩ => ⟨S24576x2048, .bf16⟩
  | .hbm, ⟨4, _⟩ => ⟨S2x4096x26944, .f32⟩
  | .hbm, ⟨5, _⟩ => ⟨S2x2048x4096, .f32⟩
  | .hbm, ⟨6, _⟩ => ⟨S2x768x4096, .f32⟩
  | .hbm, ⟨7, _⟩ => ⟨S2x2048x4096, .f32⟩
  | .hbm, ⟨8, _⟩ => ⟨S2x26944x4096, .f32⟩
  | .hbm, ⟨9, _⟩ => ⟨S4096x12288, .bf16⟩
  | .hbm, ⟨10, _⟩ => ⟨S2048x4096, .bf16⟩
  | .hbm, ⟨11, _⟩ => ⟨S768x4096, .bf16⟩
  | .hbm, ⟨12, _⟩ => ⟨S2048x4096, .bf16⟩
  | .hbm, ⟨13, _⟩ => ⟨S24576x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1024x512, .bf16⟩
  | .local _ .vmem, ⟨3, _⟩ => ⟨S1024x512, .bf16⟩
  | .local _ .vmem, ⟨4, _⟩ => ⟨S1x2048x512, .f32⟩
  | .local _ .vmem, ⟨5, _⟩ => ⟨S1x2048x512, .f32⟩
  | .local _ .vmem, ⟨6, _⟩ => ⟨S2048x512, .bf16⟩
  | .local _ .vmem, ⟨7, _⟩ => ⟨S2048x512, .bf16⟩
  | .local _ .vmem, ⟨8, _⟩ => ⟨S1x768x512, .f32⟩
  | .local _ .vmem, ⟨9, _⟩ => ⟨S1x768x512, .f32⟩
  | .local _ .vmem, ⟨10, _⟩ => ⟨S768x512, .bf16⟩
  | .local _ .vmem, ⟨11, _⟩ => ⟨S768x512, .bf16⟩
  | .local _ .vmem, ⟨12, _⟩ => ⟨S1x2048x512, .f32⟩
  | .local _ .vmem, ⟨13, _⟩ => ⟨S1x2048x512, .f32⟩
  | .local _ .vmem, ⟨14, _⟩ => ⟨S2048x512, .bf16⟩
  | .local _ .vmem, ⟨15, _⟩ => ⟨S2048x512, .bf16⟩
  | .local _ .vmem, ⟨16, _⟩ => ⟨S768x4096, .bf16⟩
  | .local _ .vmem, ⟨17, _⟩ => ⟨S768x4096, .bf16⟩
  | .local _ .vmem, ⟨18, _⟩ => ⟨S768x2048, .bf16⟩
  | .local _ .vmem, ⟨19, _⟩ => ⟨S768x2048, .bf16⟩
  | .local _ .vmem, ⟨20, _⟩ => ⟨S768x768, .bf16⟩
  | .local _ .vmem, ⟨21, _⟩ => ⟨S768x768, .bf16⟩
  | .local _ .vmem, ⟨22, _⟩ => ⟨S768x2048, .bf16⟩
  | .local _ .vmem, ⟨23, _⟩ => ⟨S768x2048, .bf16⟩
  | .local _ .vmem, ⟨24, _⟩ => ⟨S4096x256, .bf16⟩
  | .local _ .vmem, ⟨25, _⟩ => ⟨S4096x256, .bf16⟩
  | .local _ .vmem, ⟨26, _⟩ => ⟨S4096x256, .bf16⟩
  | .local _ .vmem, ⟨27, _⟩ => ⟨S4096x256, .bf16⟩
  | .local _ .vmem, ⟨28, _⟩ => ⟨S4096x256, .bf16⟩
  | .local _ .vmem, ⟨29, _⟩ => ⟨S4096x256, .bf16⟩
  | .local _ .vmem, ⟨30, _⟩ => ⟨S2048x256, .bf16⟩
  | .local _ .vmem, ⟨31, _⟩ => ⟨S2048x256, .bf16⟩
  | .local _ .vmem, ⟨32, _⟩ => ⟨S768x256, .bf16⟩
  | .local _ .vmem, ⟨33, _⟩ => ⟨S768x256, .bf16⟩
  | .local _ .vmem, ⟨34, _⟩ => ⟨S2048x256, .bf16⟩
  | .local _ .vmem, ⟨35, _⟩ => ⟨S2048x256, .bf16⟩
  | .local _ .vmem, ⟨36, _⟩ => ⟨S768x256, .bf16⟩
  | .local _ .vmem, ⟨37, _⟩ => ⟨S768x256, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg3_1 : Ref sig .tc := ⟨.vmem, 23, rfl⟩
abbrev cc4_stg4_0 : Ref sig .tc := ⟨.vmem, 24, rfl⟩
abbrev cc4_stg4_1 : Ref sig .tc := ⟨.vmem, 25, rfl⟩
abbrev cc4_stg5_0 : Ref sig .tc := ⟨.vmem, 26, rfl⟩
abbrev cc4_stg5_1 : Ref sig .tc := ⟨.vmem, 27, rfl⟩
abbrev cc4_stg6_0 : Ref sig .tc := ⟨.vmem, 28, rfl⟩
abbrev cc4_stg6_1 : Ref sig .tc := ⟨.vmem, 29, rfl⟩
abbrev cc4_stg7_0 : Ref sig .tc := ⟨.vmem, 30, rfl⟩
abbrev cc4_stg7_1 : Ref sig .tc := ⟨.vmem, 31, rfl⟩
abbrev cc4_stg8_0 : Ref sig .tc := ⟨.vmem, 32, rfl⟩
abbrev cc4_stg8_1 : Ref sig .tc := ⟨.vmem, 33, rfl⟩
abbrev cc4_stg9_0 : Ref sig .tc := ⟨.vmem, 34, rfl⟩
abbrev cc4_stg9_1 : Ref sig .tc := ⟨.vmem, 35, rfl⟩
abbrev cc4_stg10_0 : Ref sig .tc := ⟨.vmem, 36, rfl⟩
abbrev cc4_stg10_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc4_sem4_0 : DmaSem sig := 24
abbrev cc4_sem4_1 : DmaSem sig := 25
abbrev cc4_sem5_0 : DmaSem sig := 26
abbrev cc4_sem5_1 : DmaSem sig := 27
abbrev cc4_sem6_0 : DmaSem sig := 28
abbrev cc4_sem6_1 : DmaSem sig := 29
abbrev cc4_sem7_0 : DmaSem sig := 30
abbrev cc4_sem7_1 : DmaSem sig := 31
abbrev cc4_sem8_0 : DmaSem sig := 32
abbrev cc4_sem8_1 : DmaSem sig := 33
abbrev cc4_sem9_0 : DmaSem sig := 34
abbrev cc4_sem9_1 : DmaSem sig := 35
abbrev cc4_sem10_0 : DmaSem sig := 36
abbrev cc4_sem10_1 : DmaSem sig := 37

abbrev nD : Nat := 1
abbrev τ : Topo := Topo.v7x

variable {F : FTy → Type} [FloatOps F]

abbrev grid0 : Pipeline.Grid := ⟨2, ![4, 24], ![false, false]⟩

def k0_mult1 (i : grid0.Coords) : BitVec 32 :=
  let c14656_i32 : BitVec 32 := 14656#32
  let arg1 : BitVec 32 := BitVec.ofNat 32 (i 1).val
  let c512_i32 : BitVec 32 := 512#32
  let v0 : BitVec 32 := Scalar.muli arg1 c512_i32
  let v1 : BitVec 32 := Scalar.addi c14656_i32 v0
  v1
def k0_mult2 (i : grid0.Coords) : BitVec 32 :=
  let arg0 : BitVec 32 := BitVec.ofNat 32 (i 0).val
  let c1024_i32 : BitVec 32 := 1024#32
  let v3 : BitVec 32 := Scalar.muli arg0 c1024_i32
  v3
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c14656_i32 : BitVec 32 := 14656#32
  let v1 : BitVec 32 := Scalar.addi c14656_i32 v0
  let v2 : BitVec 32 := v1
  let c1024_i32 : BitVec 32 := 1024#32
  let v3 : BitVec 32 := Scalar.muli arg0 c1024_i32
  let v4 : BitVec 32 := v3
  let c0_i32 : BitVec 32 := 0#32
  let c0_i32_0 : BitVec 32 := 0#32
  ![c0_i32.toNat, v2.toNat, v4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![1, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![1, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1x768x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S768x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![1, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1x2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev grid4 : Pipeline.Grid := ⟨2, ![32, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc4_transform_5 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc4_transform_6 (i : grid4.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S768x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S768x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S768x768 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S768x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S4096x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S4096x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![false, true]

abbrev stage4_6 : Fin 2 → Memref sig .tc .vmem S4096x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![false, true]

abbrev stage4_7 : Fin 2 → Memref sig .tc .vmem S2048x256 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![false, true]

abbrev stage4_8 : Fin 2 → Memref sig .tc .vmem S768x256 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![false, true]

abbrev stage4_9 : Fin 2 → Memref sig .tc .vmem S2048x256 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![false, true]

abbrev stage4_10 : Fin 2 → Memref sig .tc .vmem S768x256 .bf16 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, true]
-- ==== ReferenceIdeal.lean ====
abbrev S24576x4096 : Shape := ⟨2, ![24576, 4096]⟩
abbrev S24576x2048 : Shape := ⟨2, ![24576, 2048]⟩
abbrev S24576x768 : Shape := ⟨2, ![24576, 768]⟩
abbrev S2x4096x26944 : Shape := ⟨3, ![2, 4096, 26944]⟩
abbrev S2x2048x4096 : Shape := ⟨3, ![2, 2048, 4096]⟩
abbrev S2x768x4096 : Shape := ⟨3, ![2, 768, 4096]⟩
abbrev S1x4096x26944 : Shape := ⟨3, ![1, 4096, 26944]⟩
abbrev S4096x26944 : Shape := ⟨2, ![4096, 26944]⟩
abbrev S24576x26944 : Shape := ⟨2, ![24576, 26944]⟩
abbrev S24576x12288 : Shape := ⟨2, ![24576, 12288]⟩
abbrev S1x2048x4096 : Shape := ⟨3, ![1, 2048, 4096]⟩
abbrev S2048x4096 : Shape := ⟨2, ![2048, 4096]⟩
abbrev S1x768x4096 : Shape := ⟨3, ![1, 768, 4096]⟩
abbrev S768x4096 : Shape := ⟨2, ![768, 4096]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S24576x2048, .bf16⟩
  | .hbm, ⟨2, _⟩ => ⟨S24576x768, .bf16⟩
  | .hbm, ⟨3, _⟩ => ⟨S24576x2048, .bf16⟩
  | .hbm, ⟨4, _⟩ => ⟨S2x4096x26944, .f32⟩
  | .hbm, ⟨5, _⟩ => ⟨S2x2048x4096, .f32⟩
  | .hbm, ⟨6, _⟩ => ⟨S2x768x4096, .f32⟩
  | .hbm, ⟨7, _⟩ => ⟨S2x2048x4096, .f32⟩
  | .hbm, ⟨8, _⟩ => ⟨S24576x4096, .f32⟩
  | .hbm, ⟨9, _⟩ => ⟨S1x4096x26944, .f32⟩
  | .hbm, ⟨10, _⟩ => ⟨S4096x26944, .f32⟩
  | .hbm, ⟨11, _⟩ => ⟨S24576x26944, .f32⟩
  | .hbm, ⟨12, _⟩ => ⟨S24576x12288, .f32⟩
  | .hbm, ⟨13, _⟩ => ⟨S24576x2048, .f32⟩
  | .hbm, ⟨14, _⟩ => ⟨S1x2048x4096, .f32⟩
  | .hbm, ⟨15, _⟩ => ⟨S2048x4096, .f32⟩
  | .hbm, ⟨16, _⟩ => ⟨S24576x4096, .f32⟩
  | .hbm, ⟨17, _⟩ => ⟨S24576x768, .f32⟩
  | .hbm, ⟨18, _⟩ => ⟨S1x768x4096, .f32⟩
  | .hbm, ⟨19, _⟩ => ⟨S768x4096, .f32⟩
  | .hbm, ⟨20, _⟩ => ⟨S24576x4096, .f32⟩
  | .hbm, ⟨21, _⟩ => ⟨S24576x2048, .f32⟩
  | .hbm, ⟨22, _⟩ => ⟨S1x2048x4096, .f32⟩
  | .hbm, ⟨23, _⟩ => ⟨S2048x4096, .f32⟩
  | .hbm, ⟨24, _⟩ => ⟨S24576x4096, .f32⟩
  | .hbm, ⟨25, _⟩ => ⟨S24576x12288, .f32⟩
  | .hbm, ⟨26, _⟩ => ⟨S24576x12288, .f32⟩
  | .hbm, ⟨27, _⟩ => ⟨S_, .f32⟩
  | .hbm, ⟨28, _⟩ => ⟨S24576x12288, .f32⟩
  | .hbm, ⟨29, _⟩ => ⟨S24576x12288, .f32⟩
  | .hbm, ⟨30, _⟩ => ⟨S_, .f32⟩
  | .hbm, ⟨31, _⟩ => ⟨S24576x12288, .f32⟩
  | .hbm, ⟨32, _⟩ => ⟨S24576x12288, .f32⟩
  | .hbm, ⟨33, _⟩ => ⟨S24576x4096, .f32⟩
  | .hbm, ⟨34, _⟩ => ⟨S24576x4096, .f32⟩
  | .hbm, ⟨35, _⟩ => ⟨S24576x4096, .f32⟩
  | .hbm, ⟨36, _⟩ => ⟨S24576x4096, .f32⟩
  | .hbm, ⟨37, _⟩ => ⟨S24576x4096, .f32⟩
  | .hbm, ⟨38, _⟩ => ⟨S24576x4096, .f32⟩
  | .hbm, ⟨39, _⟩ => ⟨S24576x4096, .f32⟩
  | .hbm, ⟨40, _⟩ => ⟨S24576x4096, .f32⟩
  | .hbm, ⟨41, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Up.lean ====
abbrev S24576x4096 : Shape := ⟨2, ![24576, 4096]⟩
abbrev S2x4096 : Shape := ⟨2, ![2, 4096]⟩
abbrev S2x4096x11008 : Shape := ⟨3, ![2, 4096, 11008]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S1x4096x11008 : Shape := ⟨3, ![1, 4096, 11008]⟩
abbrev S4096x11008 : Shape := ⟨2, ![4096, 11008]⟩
abbrev S_ : Shape := ⟨0, ![]⟩
abbrev S4096x11264 : Shape := ⟨2, ![4096, 11264]⟩
abbrev S24576x11264 : Shape := ⟨2, ![24576, 11264]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 21
  | .vmem => 13
  | .smem => 0
  | _ => 0

abbrev bufTy : (tb : Table) → Fin (tcTables nBuf tb) → BufTy
  | .hbm, ⟨0, _⟩ => ⟨S24576x4096, .f32⟩
  | .hbm, ⟨1, _⟩ => ⟨S2x4096, .f32⟩
  | .hbm, ⟨2, _⟩ => ⟨S2x4096x11008, .f32⟩
  | .hbm, ⟨3, _⟩ => ⟨S2x4096x11008, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S24576x4096, .bf16⟩
  | .hbm, ⟨8, _⟩ => ⟨S1x4096x11008, .f32⟩
  | .hbm, ⟨9, _⟩ => ⟨S4096x11008, .f32⟩
  | .hbm, ⟨10, _⟩ => ⟨S_, .i32⟩
  | .hbm, ⟨11, _⟩ => ⟨S_, .f32⟩
  | .hbm, ⟨12, _⟩ => ⟨S4096x11264, .f32⟩
  | .hbm, ⟨13, _⟩ => ⟨S4096x11264, .bf16⟩
  | .hbm, ⟨14, _⟩ => ⟨S1x4096x11008, .f32⟩
  | .hbm, ⟨15, _⟩ => ⟨S4096x11008, .f32⟩
  | .hbm, ⟨16, _⟩ => ⟨S_, .i32⟩
  | .hbm, ⟨17, _⟩ => ⟨S_, .f32⟩
  | .hbm, ⟨18, _⟩ => ⟨S4096x11264, .f32⟩
  | .hbm, ⟨19, _⟩ => ⟨S4096x11264, .bf16⟩
  | .hbm, ⟨20, _⟩ => ⟨S24576x11264, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S1024x512, .bf16⟩
  | .local _ .vmem, ⟨12, _⟩ => ⟨S1024x512, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![24, 22], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== UpReferenceIdeal.lean ====
abbrev S24576x4096 : Shape := ⟨2, ![24576, 4096]⟩
abbrev S2x4096 : Shape := ⟨2, ![2, 4096]⟩
abbrev S2x4096x11008 : Shape := ⟨3, ![2, 4096, 11008]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S4096 : Shape := ⟨1, ![4096]⟩
abbrev S1x4096x11008 : Shape := ⟨3, ![1, 4096, 11008]⟩
abbrev S4096x11008 : Shape := ⟨2, ![4096, 11008]⟩
abbrev S24576x11008 : Shape := ⟨2, ![24576, 11008]⟩
abbrev S24576x11264 : Shape := ⟨2, ![24576, 11264]⟩

abbrev nBuf : Space → Nat
  | .hbm => 42
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S2x4096, .f32⟩
  | .hbm, ⟨2, _⟩ => ⟨S2x4096x11008, .f32⟩
  | .hbm, ⟨3, _⟩ => ⟨S2x4096x11008, .f32⟩
  | .hbm, ⟨4, _⟩ => ⟨S24576x4096, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x4096, .f32⟩
  | .hbm, ⟨16, _⟩ => ⟨S24576x4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S24576x4096, .f32⟩
  | .hbm, ⟨21, _⟩ => ⟨S24576x4096, .f32⟩
  | .hbm, ⟨22, _⟩ => ⟨S1x4096x11008, .f32⟩
  | .hbm, ⟨23, _⟩ => ⟨S4096x11008, .f32⟩
  | .hbm, ⟨24, _⟩ => ⟨S24576x11008, .f32⟩
  | .hbm, ⟨25, _⟩ => ⟨S24576x11008, .f32⟩
  | .hbm, ⟨26, _⟩ => ⟨S24576x11008, .f32⟩
  | .hbm, ⟨27, _⟩ => ⟨S_, .f32⟩
  | .hbm, ⟨28, _⟩ => ⟨S24576x11008, .f32⟩
  | .hbm, ⟨29, _⟩ => ⟨S24576x11008, .f32⟩
  | .hbm, ⟨30, _⟩ => ⟨S_, .f32⟩
  | .hbm, ⟨31, _⟩ => ⟨S24576x11008, .f32⟩
  | .hbm, ⟨32, _⟩ => ⟨S24576x11008, .f32⟩
  | .hbm, ⟨33, _⟩ => ⟨S24576x11008, .f32⟩
  | .hbm, ⟨34, _⟩ => ⟨S1x4096x11008, .f32⟩
  | .hbm, ⟨35, _⟩ => ⟨S4096x11008, .f32⟩
  | .hbm, ⟨36, _⟩ => ⟨S24576x11008, .f32⟩
  | .hbm, ⟨37, _⟩ => ⟨S24576x11008, .f32⟩
  | .hbm, ⟨38, _⟩ => ⟨S_, .i32⟩
  | .hbm, ⟨39, _⟩ => ⟨S_, .f32⟩
  | .hbm, ⟨40, _⟩ => ⟨S24576x11264, .f32⟩
  | .hbm, ⟨41, _⟩ => ⟨S24576x11264, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Down.lean ====
abbrev S24576x4096 : Shape := ⟨2, ![24576, 4096]⟩
abbrev S24576x11264 : Shape := ⟨2, ![24576, 11264]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S_ : Shape := ⟨0, ![]⟩
abbrev S11264x4096 : Shape := ⟨2, ![11264, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S24576x4096, .f32⟩
  | .hbm, ⟨1, _⟩ => ⟨S24576x11264, .bf16⟩
  | .hbm, ⟨2, _⟩ => ⟨S2x11008x4096, .f32⟩
  | .hbm, ⟨3, _⟩ => ⟨S1x11008x4096, .f32⟩
  | .hbm, ⟨4, _⟩ => ⟨S11008x4096, .f32⟩
  | .hbm, ⟨5, _⟩ => ⟨S_, .i32⟩
  | .hbm, ⟨6, _⟩ => ⟨S_, .f32⟩
  | .hbm, ⟨7, _⟩ => ⟨S11264x4096, .f32⟩
  | .hbm, ⟨8, _⟩ => ⟨S11264x4096, .bf16⟩
  | .hbm, ⟨9, _⟩ => ⟨S24576x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![24, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S24576x4096 : Shape := ⟨2, ![24576, 4096]⟩
abbrev S24576x11264 : Shape := ⟨2, ![24576, 11264]⟩
abbrev S2x11008x4096 : Shape := ⟨3, ![2, 11008, 4096]⟩
abbrev S24576x11008 : Shape := ⟨2, ![24576, 11008]⟩
abbrev S1x11008x4096 : Shape := ⟨3, ![1, 11008, 4096]⟩
abbrev S11008x4096 : Shape := ⟨2, ![11008, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S24576x11264, .bf16⟩
  | .hbm, ⟨2, _⟩ => ⟨S2x11008x4096, .f32⟩
  | .hbm, ⟨3, _⟩ => ⟨S24576x11008, .bf16⟩
  | .hbm, ⟨4, _⟩ => ⟨S24576x11008, .f32⟩
  | .hbm, ⟨5, _⟩ => ⟨S1x11008x4096, .f32⟩
  | .hbm, ⟨6, _⟩ => ⟨S11008x4096, .f32⟩
  | .hbm, ⟨7, _⟩ => ⟨S24576x4096, .f32⟩
  | .hbm, ⟨8, _⟩ => ⟨S_, .f32⟩
  | .hbm, ⟨9, _⟩ => ⟨S24576x4096, .f32⟩
  | .hbm, ⟨10, _⟩ => ⟨S24576x4096, .f32⟩
  | .hbm, ⟨11, _⟩ => ⟨S24576x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Out.lean ====
abbrev S24576x4096 : Shape := ⟨2, ![24576, 4096]⟩
abbrev S2x4096x4096 : Shape := ⟨3, ![2, 4096, 4096]⟩
abbrev S4096x4096 : Shape := ⟨2, ![4096, 4096]⟩
abbrev S1x2048x512 : Shape := ⟨3, ![1, 2048, 512]⟩
abbrev S2048x512 : Shape := ⟨2, ![2048, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S24576x4096, .f32⟩
  | .hbm, ⟨1, _⟩ => ⟨S24576x4096, .bf16⟩
  | .hbm, ⟨2, _⟩ => ⟨S2x4096x4096, .f32⟩
  | .hbm, ⟨3, _⟩ => ⟨S4096x4096, .bf16⟩
  | .hbm, ⟨4, _⟩ => ⟨S24576x4096, .f32⟩
  | .local _ .vmem, ⟨0, _⟩ => ⟨S1x2048x512, .f32⟩
  | .local _ .vmem, ⟨1, _⟩ => ⟨S1x2048x512, .f32⟩
  | .local _ .vmem, ⟨2, _⟩ => ⟨S2048x512, .bf16⟩
  | .local _ .vmem, ⟨3, _⟩ => ⟨S2048x512, .bf16⟩
  | .local _ .vmem, ⟨4, _⟩ => ⟨S1024x4096, .bf16⟩
  | .local _ .vmem, ⟨5, _⟩ => ⟨S1024x4096, .bf16⟩
  | .local _ .vmem, ⟨6, _⟩ => ⟨S4096x512, .bf16⟩
  | .local _ .vmem, ⟨7, _⟩ => ⟨S4096x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![24, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== OutReferenceIdeal.lean ====
abbrev S24576x4096 : Shape := ⟨2, ![24576, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S24576x4096, .bf16⟩
  | .hbm, ⟨2, _⟩ => ⟨S2x4096x4096, .f32⟩
  | .hbm, ⟨3, _⟩ => ⟨S24576x4096, .f32⟩
  | .hbm, ⟨4, _⟩ => ⟨S1x4096x4096, .f32⟩
  | .hbm, ⟨5, _⟩ => ⟨S4096x4096, .f32⟩
  | .hbm, ⟨6, _⟩ => ⟨S24576x4096, .f32⟩
  | .hbm, ⟨7, _⟩ => ⟨S24576x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Vt.lean ====
abbrev S24576x4096 : Shape := ⟨2, ![24576, 4096]⟩
abbrev S2x4096x26944 : Shape := ⟨3, ![2, 4096, 26944]⟩
abbrev S2x26944x4096 : Shape := ⟨3, ![2, 26944, 4096]⟩
abbrev S4096x2048 : Shape := ⟨2, ![4096, 2048]⟩
abbrev S1x512x1024 : Shape := ⟨3, ![1, 512, 1024]⟩
abbrev S1024x512 : Shape := ⟨2, ![1024, 512]⟩
abbrev S512x1024 : Shape := ⟨2, ![512, 1024]⟩
abbrev S8x24x256x1024 : Shape := ⟨4, ![8, 24, 256, 1024]⟩
abbrev S1024x4096 : Shape := ⟨2, ![1024, 4096]⟩
abbrev S4096x256 : Shape := ⟨2, ![4096, 256]⟩
abbrev S1x1x256x1024 : Shape := ⟨4, ![1, 1, 256, 1024]⟩
abbrev S256x4096 : Shape := ⟨2, ![256, 4096]⟩
abbrev S256x256 : Shape := ⟨2, ![256, 256]⟩
abbrev S1x1x256x256 : Shape := ⟨4, ![1, 1, 256, 256]⟩

abbrev nBuf : Space → Nat
  | .hbm => 5
  | .vmem => 10
  | .smem => 0
  | _ => 0

abbrev bufTy : (tb : Table) → Fin (tcTables nBuf tb) → BufTy
  | .hbm, ⟨0, _⟩ => ⟨S24576x4096, .bf16⟩
  | .hbm, ⟨1, _⟩ => ⟨S2x4096x26944, .f32⟩
  | .hbm, ⟨2, _⟩ => ⟨S2x26944x4096, .f32⟩
  | .hbm, ⟨3, _⟩ => ⟨S4096x2048, .bf16⟩
  | .hbm, ⟨4, _⟩ => ⟨S8x24x256x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x4096, .bf16⟩
  | .local _ .vmem, ⟨5, _⟩ => ⟨S1024x4096, .bf16⟩
  | .local _ .vmem, ⟨6, _⟩ => ⟨S4096x256, .bf16⟩
  | .local _ .vmem, ⟨7, _⟩ => ⟨S4096x256, .bf16⟩
  | .local _ .vmem, ⟨8, _⟩ => ⟨S1x1x256x1024, .bf16⟩
  | .local _ .vmem, ⟨9, _⟩ => ⟨S1x1x256x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c4096_i32 : BitVec 32 := 4096#32
  let arg1 : BitVec 32 := BitVec.ofNat 32 (i 1).val
  let c512_i32 : BitVec 32 := 512#32
  let v0 : BitVec 32 := Scalar.muli arg1 c512_i32
  let v1 : BitVec 32 := Scalar.addi c4096_i32 v0
  v1
def k0_mult2 (i : grid0.Coords) : BitVec 32 :=
  let arg0 : BitVec 32 := BitVec.ofNat 32 (i 0).val
  let c1024_i32 : BitVec 32 := 1024#32
  let v3 : BitVec 32 := Scalar.muli arg0 c1024_i32
  v3
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.addi c4096_i32 v0
  let v2 : BitVec 32 := v1
  let c1024_i32 : BitVec 32 := 1024#32
  let v3 : BitVec 32 := Scalar.muli arg0 c1024_i32
  let v4 : BitVec 32 := v3
  let c0_i32 : BitVec 32 := 0#32
  let c0_i32_0 : BitVec 32 := 0#32
  ![c0_i32.toNat, v2.toNat, v4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![24, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== VtReferenceIdeal.lean ====
abbrev S24576x4096 : Shape := ⟨2, ![24576, 4096]⟩
abbrev S2x4096x26944 : Shape := ⟨3, ![2, 4096, 26944]⟩
abbrev S1x4096x26944 : Shape := ⟨3, ![1, 4096, 26944]⟩
abbrev S4096x26944 : Shape := ⟨2, ![4096, 26944]⟩
abbrev S24576x26944 : Shape := ⟨2, ![24576, 26944]⟩
abbrev S24576x2048 : Shape := ⟨2, ![24576, 2048]⟩
abbrev S24x1024x8x256 : Shape := ⟨4, ![24, 1024, 8, 256]⟩
abbrev S8x24x256x1024 : Shape := ⟨4, ![8, 24, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x26944, .f32⟩
  | .hbm, ⟨2, _⟩ => ⟨S24576x4096, .f32⟩
  | .hbm, ⟨3, _⟩ => ⟨S1x4096x26944, .f32⟩
  | .hbm, ⟨4, _⟩ => ⟨S4096x26944, .f32⟩
  | .hbm, ⟨5, _⟩ => ⟨S24576x26944, .f32⟩
  | .hbm, ⟨6, _⟩ => ⟨S24576x2048, .f32⟩
  | .hbm, ⟨7, _⟩ => ⟨S24x1024x8x256, .f32⟩
  | .hbm, ⟨8, _⟩ => ⟨S8x24x256x1024, .f32⟩
  | .hbm, ⟨9, _⟩ => ⟨S8x24x256x1024, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Latent.lean ====
abbrev S24576x4096 : Shape := ⟨2, ![24576, 4096]⟩
abbrev S2x4096x26944 : Shape := ⟨3, ![2, 4096, 26944]⟩
abbrev S2x26944x4096 : Shape := ⟨3, ![2, 26944, 4096]⟩
abbrev S4096x1792 : Shape := ⟨2, ![4096, 1792]⟩
abbrev S1x256x1024 : Shape := ⟨3, ![1, 256, 1024]⟩
abbrev S1024x256 : Shape := ⟨2, ![1024, 256]⟩
abbrev S256x1024 : Shape := ⟨2, ![256, 1024]⟩
abbrev S24576x1792 : Shape := ⟨2, ![24576, 1792]⟩
abbrev S1024x4096 : Shape := ⟨2, ![1024, 4096]⟩
abbrev S4096x256 : Shape := ⟨2, ![4096, 256]⟩

abbrev nBuf : Space → Nat
  | .hbm => 5
  | .vmem => 10
  | .smem => 0
  | _ => 0

abbrev bufTy : (tb : Table) → Fin (tcTables nBuf tb) → BufTy
  | .hbm, ⟨0, _⟩ => ⟨S24576x4096, .bf16⟩
  | .hbm, ⟨1, _⟩ => ⟨S2x4096x26944, .f32⟩
  | .hbm, ⟨2, _⟩ => ⟨S2x26944x4096, .f32⟩
  | .hbm, ⟨3, _⟩ => ⟨S4096x1792, .bf16⟩
  | .hbm, ⟨4, _⟩ => ⟨S24576x1792, .f32⟩
  | .local _ .vmem, ⟨0, _⟩ => ⟨S1x256x1024, .f32⟩
  | .local _ .vmem, ⟨1, _⟩ => ⟨S1x256x1024, .f32⟩
  | .local _ .vmem, ⟨2, _⟩ => ⟨S1024x256, .bf16⟩
  | .local _ .vmem, ⟨3, _⟩ => ⟨S1024x256, .bf16⟩
  | .local _ .vmem, ⟨4, _⟩ => ⟨S1024x4096, .bf16⟩
  | .local _ .vmem, ⟨5, _⟩ => ⟨S1024x4096, .bf16⟩
  | .local _ .vmem, ⟨6, _⟩ => ⟨S4096x256, .bf16⟩
  | .local _ .vmem, ⟨7, _⟩ => ⟨S4096x256, .bf16⟩
  | .local _ .vmem, ⟨8, _⟩ => ⟨S1024x256, .f32⟩
  | .local _ .vmem, ⟨9, _⟩ => ⟨S1024x256, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 7], ![false, false]⟩

def k0_mult1 (i : grid0.Coords) : BitVec 32 :=
  let c13056_i32 : BitVec 32 := 13056#32
  let arg1 : BitVec 32 := BitVec.ofNat 32 (i 1).val
  let c256_i32 : BitVec 32 := 256#32
  let v0 : BitVec 32 := Scalar.muli arg1 c256_i32
  let v1 : BitVec 32 := Scalar.addi c13056_i32 v0
  v1
def k0_mult2 (i : grid0.Coords) : BitVec 32 :=
  let arg0 : BitVec 32 := BitVec.ofNat 32 (i 0).val
  let c1024_i32 : BitVec 32 := 1024#32
  let v3 : BitVec 32 := Scalar.muli arg0 c1024_i32
  v3
def cc0_transform_0 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c13056_i32 : BitVec 32 := 13056#32
  let v1 : BitVec 32 := Scalar.addi c13056_i32 v0
  let v2 : BitVec 32 := v1
  let c1024_i32 : BitVec 32 := 1024#32
  let v3 : BitVec 32 := Scalar.muli arg0 c1024_i32
  let v4 : BitVec 32 := v3
  let c0_i32 : BitVec 32 := 0#32
  let c0_i32_0 : BitVec 32 := 0#32
  ![c0_i32.toNat, v2.toNat, v4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![24, 7], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== LatentReferenceIdeal.lean ====
abbrev S24576x4096 : Shape := ⟨2, ![24576, 4096]⟩
abbrev S2x4096x26944 : Shape := ⟨3, ![2, 4096, 26944]⟩
abbrev S1x4096x26944 : Shape := ⟨3, ![1, 4096, 26944]⟩
abbrev S4096x26944 : Shape := ⟨2, ![4096, 26944]⟩
abbrev S24576x26944 : Shape := ⟨2, ![24576, 26944]⟩
abbrev S24576x1600 : Shape := ⟨2, ![24576, 1600]⟩
abbrev S_ : Shape := ⟨0, ![]⟩
abbrev S24576x1792 : Shape := ⟨2, ![24576, 1792]⟩

abbrev nBuf : Space → Nat
  | .hbm => 10
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x26944, .f32⟩
  | .hbm, ⟨2, _⟩ => ⟨S24576x4096, .f32⟩
  | .hbm, ⟨3, _⟩ => ⟨S1x4096x26944, .f32⟩
  | .hbm, ⟨4, _⟩ => ⟨S4096x26944, .f32⟩
  | .hbm, ⟨5, _⟩ => ⟨S24576x26944, .f32⟩
  | .hbm, ⟨6, _⟩ => ⟨S24576x1600, .f32⟩
  | .hbm, ⟨7, _⟩ => ⟨S_, .i32⟩
  | .hbm, ⟨8, _⟩ => ⟨S_, .f32⟩
  | .hbm, ⟨9, _⟩ => ⟨S24576x1792, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DownTwo.lean ====
abbrev S24576x4096 : Shape := ⟨2, ![24576, 4096]⟩
abbrev S24576x11264 : Shape := ⟨2, ![24576, 11264]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S_ : Shape := ⟨0, ![]⟩
abbrev S11264x4096 : Shape := ⟨2, ![11264, 4096]⟩
abbrev S8192x4096 : Shape := ⟨2, ![8192, 4096]⟩
abbrev S16384x4096 : Shape := ⟨2, ![16384, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S24576x4096, .f32⟩
  | .hbm, ⟨1, _⟩ => ⟨S24576x11264, .bf16⟩
  | .hbm, ⟨2, _⟩ => ⟨S2x11008x4096, .f32⟩
  | .hbm, ⟨3, _⟩ => ⟨S1x11008x4096, .f32⟩
  | .hbm, ⟨4, _⟩ => ⟨S11008x4096, .f32⟩
  | .hbm, ⟨5, _⟩ => ⟨S_, .i32⟩
  | .hbm, ⟨6, _⟩ => ⟨S_, .f32⟩
  | .hbm, ⟨7, _⟩ => ⟨S11264x4096, .f32⟩
  | .hbm, ⟨8, _⟩ => ⟨S11264x4096, .bf16⟩
  | .hbm, ⟨9, _⟩ => ⟨S8192x4096, .f32⟩
  | .hbm, ⟨10, _⟩ => ⟨S16384x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![24, 4, 4], ![false, false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c0_i32_2 : BitVec 32 := 0#32
  let v6 : BitVec 1 := Scalar.cmpi .eq arg2 c0_i32_2
  let v7 : BitVec 32 := Scalar.extui v6
  let c0_i32_3 : BitVec 32 := 0#32
  let v8 : BitVec 1 := Scalar.cmpi .ne v7 c0_i32_3
  v8

def k0_cond3 (i : grid0.Coords) : BitVec 1 :=
  let arg2 : BitVec 32 := BitVec.ofNat 32 (i 2).val
  let c0_i32_4 : BitVec 32 := 0#32
  let v9 : BitVec 1 := Scalar.cmpi .sgt arg2 c0_i32_4
  let c3_i32 : BitVec 32 := 3#32
  let v10 : BitVec 1 := Scalar.cmpi .slt arg2 c3_i32
  let v11 : BitVec 1 := Scalar.andi v9 v10
  let v12 : BitVec 32 := Scalar.extui v11
  let c0_i32_5 : BitVec 32 := 0#32
  let v13 : BitVec 1 := Scalar.cmpi .ne v12 c0_i32_5
  v13

def k0_cond4 (i : grid0.Coords) : BitVec 1 :=
  let arg2 : BitVec 32 := BitVec.ofNat 32 (i 2).val
  let c3_i32_6 : BitVec 32 := 3#32
  let v14 : BitVec 1 := Scalar.cmpi .eq arg2 c3_i32_6
  let v15 : BitVec 32 := Scalar.extui v14
  let c0_i32_7 : BitVec 32 := 0#32
  let v16 : BitVec 1 := Scalar.cmpi .ne v15 c0_i32_7
  v16

def k0_cond5 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_cond6 (i : grid0.Coords) : BitVec 1 :=
  let arg2 : BitVec 32 := BitVec.ofNat 32 (i 2).val
  let c0_i32_2 : BitVec 32 := 0#32
  let v6 : BitVec 1 := Scalar.cmpi .eq arg2 c0_i32_2
  let v7 : BitVec 32 := Scalar.extui v6
  let c0_i32_3 : BitVec 32 := 0#32
  let v8 : BitVec 1 := Scalar.cmpi .ne v7 c0_i32_3
  v8

def k0_cond7 (i : grid0.Coords) : BitVec 1 :=
  let arg2 : BitVec 32 := BitVec.ofNat 32 (i 2).val
  let c0_i32_4 : BitVec 32 := 0#32
  let v9 : BitVec 1 := Scalar.cmpi .sgt arg2 c0_i32_4
  let c3_i32 : BitVec 32 := 3#32
  let v10 : BitVec 1 := Scalar.cmpi .slt arg2 c3_i32
  let v11 : BitVec 1 := Scalar.andi v9 v10
  let v12 : BitVec 32 := Scalar.extui v11
  let c0_i32_5 : BitVec 32 := 0#32
  let v13 : BitVec 1 := Scalar.cmpi .ne v12 c0_i32_5
  v13

def k0_cond8 (i : grid0.Coords) : BitVec 1 :=
  let arg2 : BitVec 32 := BitVec.ofNat 32 (i 2).val
  let c3_i32_6 : BitVec 32 := 3#32
  let v14 : BitVec 1 := Scalar.cmpi .eq arg2 c3_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg0 c7_i32
  let c8_i32 : BitVec 32 := 8#32
  let v1 : BitVec 1 := Scalar.cmpi .slt arg0 c8_i32
  let c3_i32 : BitVec 32 := 3#32
  let v2 : BitVec 32 := Scalar.select v1 arg1 c3_i32
  let c0_i32 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 1 := Scalar.cmpi .sge arg0 c8_i32_0
  let c0_i32_1 : BitVec 32 := 0#32
  let v3 : BitVec 32 := Scalar.select v2 arg1 c0_i32_1
  let c0_i32_2 : BitVec 32 := 0#32
  ![v1.toNat, v3.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownTwoReferenceIdeal.lean ====
abbrev S24576x4096 : Shape := ⟨2, ![24576, 4096]⟩
abbrev S24576x11264 : Shape := ⟨2, ![24576, 11264]⟩
abbrev S2x11008x4096 : Shape := ⟨3, ![2, 11008, 4096]⟩
abbrev S24576x11008 : Shape := ⟨2, ![24576, 11008]⟩
abbrev S1x11008x4096 : Shape := ⟨3, ![1, 11008, 4096]⟩
abbrev S11008x4096 : Shape := ⟨2, ![11008, 4096]⟩
abbrev S_ : Shape := ⟨0, ![]⟩
abbrev S8192x4096 : Shape := ⟨2, ![8192, 4096]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S24576x11264, .bf16⟩
  | .hbm, ⟨2, _⟩ => ⟨S2x11008x4096, .f32⟩
  | .hbm, ⟨3, _⟩ => ⟨S24576x11008, .bf16⟩
  | .hbm, ⟨4, _⟩ => ⟨S24576x11008, .f32⟩
  | .hbm, ⟨5, _⟩ => ⟨S1x11008x4096, .f32⟩
  | .hbm, ⟨6, _⟩ => ⟨S11008x4096, .f32⟩
  | .hbm, ⟨7, _⟩ => ⟨S24576x4096, .f32⟩
  | .hbm, ⟨8, _⟩ => ⟨S_, .f32⟩
  | .hbm, ⟨9, _⟩ => ⟨S24576x4096, .f32⟩
  | .hbm, ⟨10, _⟩ => ⟨S24576x4096, .f32⟩
  | .hbm, ⟨11, _⟩ => ⟨S24576x4096, .f32⟩
  | .hbm, ⟨12, _⟩ => ⟨S8192x4096, .f32⟩
  | .hbm, ⟨13, _⟩ => ⟨S16384x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Mla.lean ====
abbrev S3x8192x16x192 : Shape := ⟨4, ![3, 8192, 16, 192]⟩
abbrev S3x8192x16x128 : Shape := ⟨4, ![3, 8192, 16, 128]⟩
abbrev S_ : Shape := ⟨0, ![]⟩
abbrev S3x8192x16x256 : Shape := ⟨4, ![3, 8192, 16, 256]⟩
abbrev S24576x4096 : Shape := ⟨2, ![24576, 4096]⟩
abbrev S3x8192x16x1 : Shape := ⟨4, ![3, 8192, 16, 1]⟩
abbrev S3x8192x16x129 : Shape := ⟨4, ![3, 8192, 16, 129]⟩
abbrev S3x8192x16x144 : Shape := ⟨4, ![3, 8192, 16, 144]⟩
abbrev S24x1024x16x144 : Shape := ⟨4, ![24, 1024, 16, 144]⟩
abbrev S16x24x144x1024 : Shape := ⟨4, ![16, 24, 144, 1024]⟩
abbrev S24576x2048 : Shape := ⟨2, ![24576, 2048]⟩
abbrev S2048x256 : Shape := ⟨2, ![2048, 256]⟩
abbrev S8192x256 : Shape := ⟨2, ![8192, 256]⟩
abbrev S1x8x144x1024 : Shape := ⟨4, ![1, 8, 144, 1024]⟩
abbrev S2048x128 : Shape := ⟨2, ![2048, 128]⟩
abbrev S1x144x2048 : Shape := ⟨3, ![1, 144, 2048]⟩
abbrev S2x1024x2048 : Shape := ⟨3, ![2, 1024, 2048]⟩
abbrev S1x2048 : Shape := ⟨2, ![1, 2048]⟩
abbrev S1024x256 : Shape := ⟨2, ![1024, 256]⟩
abbrev S1024x2048 : Shape := ⟨2, ![1024, 2048]⟩
abbrev S1x1024x2048 : Shape := ⟨3, ![1, 1024, 2048]⟩
abbrev S2048 : Shape := ⟨1, ![2048]⟩
abbrev S1x1x144x1024 : Shape := ⟨4, ![1, 1, 144, 1024]⟩
abbrev S144x1024 : Shape := ⟨2, ![144, 1024]⟩
abbrev S144x2048 : Shape := ⟨2, ![144, 2048]⟩
abbrev S1x1x2048 : Shape := ⟨3, ![1, 1, 2048]⟩
abbrev S1x128x2048 : Shape := ⟨3, ![1, 128, 2048]⟩
abbrev S128x2048 : Shape := ⟨2, ![128, 2048]⟩

abbrev nBuf : Space → Nat
  | .hbm => 29
  | .vmem => 10
  | .smem => 0
  | _ => 0

abbrev bufTy : (tb : Table) → Fin (tcTables nBuf tb) → BufTy
  | .hbm, ⟨0, _⟩ => ⟨S3x8192x16x192, .f32⟩
  | .hbm, ⟨1, _⟩ => ⟨S3x8192x16x192, .f32⟩
  | .hbm, ⟨2, _⟩ => ⟨S3x8192x16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S3x8192x16x192, .f32⟩
  | .hbm, ⟨8, _⟩ => ⟨S3x8192x16x192, .f32⟩
  | .hbm, ⟨9, _⟩ => ⟨S_, .i32⟩
  | .hbm, ⟨10, _⟩ => ⟨S_, .f32⟩
  | .hbm, ⟨11, _⟩ => ⟨S3x8192x16x256, .f32⟩
  | .hbm, ⟨12, _⟩ => ⟨S24576x4096, .f32⟩
  | .hbm, ⟨13, _⟩ => ⟨S24576x4096, .bf16⟩
  | .hbm, ⟨14, _⟩ => ⟨S_, .i32⟩
  | .hbm, ⟨15, _⟩ => ⟨S_, .f32⟩
  | .hbm, ⟨16, _⟩ => ⟨S3x8192x16x256, .f32⟩
  | .hbm, ⟨17, _⟩ => ⟨S24576x4096, .f32⟩
  | .hbm, ⟨18, _⟩ => ⟨S24576x4096, .bf16⟩
  | .hbm, ⟨19, _⟩ => ⟨S_, .f32⟩
  | .hbm, ⟨20, _⟩ => ⟨S3x8192x16x1, .f32⟩
  | .hbm, ⟨21, _⟩ => ⟨S3x8192x16x129, .f32⟩
  | .hbm, ⟨22, _⟩ => ⟨S_, .i32⟩
  | .hbm, ⟨23, _⟩ => ⟨S_, .f32⟩
  | .hbm, ⟨24, _⟩ => ⟨S3x8192x16x144, .f32⟩
  | .hbm, ⟨25, _⟩ => ⟨S24x1024x16x144, .f32⟩
  | .hbm, ⟨26, _⟩ => ⟨S16x24x144x1024, .f32⟩
  | .hbm, ⟨27, _⟩ => ⟨S16x24x144x1024, .bf16⟩
  | .hbm, ⟨28, _⟩ => ⟨S24576x2048, .bf16⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S1x8x144x1024, .bf16⟩
  | .local _ .vmem, ⟨5, _⟩ => ⟨S1x8x144x1024, .bf16⟩
  | .local _ .vmem, ⟨6, _⟩ => ⟨S2048x128, .bf16⟩
  | .local _ .vmem, ⟨7, _⟩ => ⟨S2048x128, .bf16⟩
  | .local _ .vmem, ⟨8, _⟩ => ⟨S1x144x2048, .f32⟩
  | .local _ .vmem, ⟨9, _⟩ => ⟨S2x1024x2048, .f32⟩
  | _, _ => ⟨S3x8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 16, 4], ![false, false, false]⟩

def k0_mult1 : BitVec 32 :=
  let c0_i32 : BitVec 32 := 0#32
  c0_i32
@[reducible] def k0_t1_loop : Scf.Loop 32 :=
  let c0_i32_11 : BitVec 32 := 0#32
  let c3_i32 : BitVec 32 := 3#32
  let v17 : BitVec 32 := Scalar.addi c0_i32_11 c3_i32
  let c1_i32 : BitVec 32 := 1#32
  ⟨c0_i32_11, v17, c1_i32⟩
def k0_mult2 (k0_t1 : Fin k0_t1_loop.trips) : BitVec 32 :=
  let c2_i32 : BitVec 32 := 2#32
  let c0_i32_11 : BitVec 32 := 0#32
  let c1_i32 : BitVec 32 := 1#32
  let arg9 : BitVec 32 := Scf.iv c0_i32_11 c1_i32 k0_t1
  let v80 : BitVec 32 := Scalar.muli c2_i32 arg9
  let c1_i32_52 : BitVec 32 := 1#32
  let v81 : BitVec 32 := Scalar.addi v80 c1_i32_52
  let c1024_i32 : BitVec 32 := 1024#32
  let v82 : BitVec 32 := Scalar.muli v81 c1024_i32
  v82
def k0_off1 (k0_t1 : Fin k0_t1_loop.trips) (c1_i32_52 : BitVec 32) : Fin 2 → Nat :=
  let c2_i32 : BitVec 32 := 2#32
  let c0_i32_11 : BitVec 32 := 0#32
  let c1_i32 : BitVec 32 := 1#32
  let arg9 : BitVec 32 := Scf.iv c0_i32_11 c1_i32 k0_t1
  let v80 : BitVec 32 := Scalar.muli c2_i32 arg9
  let v81 : BitVec 32 := Scalar.addi v80 c1_i32_52
  let c1024_i32 : BitVec 32 := 1024#32
  let v82 : BitVec 32 := Scalar.muli v81 c1024_i32
  let v83 : BitVec 32 := v82
  let v84 : Index := Scalar.indexCast v83
  let c0_53 : Index := 0#32
  ![v84.toNat, 0]
def k0_off2 (k0_t1 : Fin k0_t1_loop.trips) : Fin 4 → Nat :=
  let c0_59 : Index := 0#32
  let c2_i32 : BitVec 32 := 2#32
  let c0_i32_11 : BitVec 32 := 0#32
  let c1_i32 : BitVec 32 := 1#32
  let arg9 : BitVec 32 := Scf.iv c0_i32_11 c1_i32 k0_t1
  let v80 : BitVec 32 := Scalar.muli c2_i32 arg9
  let v93 : Index := Scalar.indexCast v80
  let c0_60 : Index := 0#32
  let c0_61 : Index := 0#32
  ![0, v93.toNat, 0, 0]
def k0_mult3 (k0_t1 : Fin k0_t1_loop.trips) : BitVec 32 :=
  let c2_i32 : BitVec 32 := 2#32
  let c0_i32_11 : BitVec 32 := 0#32
  let c1_i32 : BitVec 32 := 1#32
  let arg9 : BitVec 32 := Scf.iv c0_i32_11 c1_i32 k0_t1
  let v80 : BitVec 32 := Scalar.muli c2_i32 arg9
  let c2_i32_72 : BitVec 32 := 2#32
  let v114 : BitVec 32 := Scalar.addi v80 c2_i32_72
  let c1024_i32_73 : BitVec 32 := 1024#32
  let v115 : BitVec 32 := Scalar.muli v114 c1024_i32_73
  v115
def k0_off3 (k0_t1 : Fin k0_t1_loop.trips) : Fin 4 → Nat :=
  let c0_81 : Index := 0#32
  let c2_i32 : BitVec 32 := 2#32
  let c0_i32_11 : BitVec 32 := 0#32
  let c1_i32 : BitVec 32 := 1#32
  let arg9 : BitVec 32 := Scf.iv c0_i32_11 c1_i32 k0_t1
  let v80 : BitVec 32 := Scalar.muli c2_i32 arg9
  let c1_i32_80 : BitVec 32 := 1#32
  let v126 : BitVec 32 := Scalar.addi v80 c1_i32_80
  let v127 : Index := Scalar.indexCast v126
  let c0_82 : Index := 0#32
  let c0_83 : Index := 0#32
  ![0, v127.toNat, 0, 0]
def k0_mult4 : BitVec 32 :=
  let c7168_i32 : BitVec 32 := 7168#32
  c7168_i32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaReferenceIdeal.lean ====
abbrev S3x8192x16x192 : Shape := ⟨4, ![3, 8192, 16, 192]⟩
abbrev S3x8192x16x128 : Shape := ⟨4, ![3, 8192, 16, 128]⟩
abbrev S3x16x8192x8192 : Shape := ⟨4, ![3, 16, 8192, 8192]⟩
abbrev S_ : Shape := ⟨0, ![]⟩
abbrev S3x16x8192 : Shape := ⟨3, ![3, 16, 8192]⟩
abbrev S3x16x8192x1 : Shape := ⟨4, ![3, 16, 8192, 1]⟩
abbrev S3x16x128x8192 : Shape := ⟨4, ![3, 16, 128, 8192]⟩
abbrev S24576x2048 : Shape := ⟨2, ![24576, 2048]⟩

abbrev nBuf : Space → Nat
  | .hbm => 25
  | .vmem => 0
  | .smem => 0
  | _ => 0

abbrev bufTy : (tb : Table) → Fin (tcTables nBuf tb) → BufTy
  | .hbm, ⟨0, _⟩ => ⟨S3x8192x16x192, .f32⟩
  | .hbm, ⟨1, _⟩ => ⟨S3x8192x16x192, .f32⟩
  | .hbm, ⟨2, _⟩ => ⟨S3x8192x16x128, .f32⟩
  | .hbm, ⟨3, _⟩ => ⟨S3x16x8192x8192, .f32⟩
  | .hbm, ⟨4, _⟩ => ⟨S_, .f32⟩
  | .hbm, ⟨5, _⟩ => ⟨S3x16x8192x8192, .f32⟩
  | .hbm, ⟨6, _⟩ => ⟨S3x16x8192x8192, .f32⟩
  | .hbm, ⟨7, _⟩ => ⟨S_, .f32⟩
  | .hbm, ⟨8, _⟩ => ⟨S3x16x8192, .f32⟩
  | .hbm, ⟨9, _⟩ => ⟨S_, .f32⟩
  | .hbm, ⟨10, _⟩ => ⟨S3x16x8192, .f32⟩
  | .hbm, ⟨11, _⟩ => ⟨S3x16x8192, .f32⟩
  | .hbm, ⟨12, _⟩ => ⟨S3x16x8192x1, .f32⟩
  | .hbm, ⟨13, _⟩ => ⟨S3x16x8192x8192, .f32⟩
  | .hbm, ⟨14, _⟩ => ⟨S3x16x8192x8192, .f32⟩
  | .hbm, ⟨15, _⟩ => ⟨S3x16x8192x8192, .f32⟩
  | .hbm, ⟨16, _⟩ => ⟨S_, .f32⟩
  | .hbm, ⟨17, _⟩ => ⟨S3x16x8192, .f32⟩
  | .hbm, ⟨18, _⟩ => ⟨S3x16x8192x1, .f32⟩
  | .hbm, ⟨19, _⟩ => ⟨S3x16x8192x8192, .f32⟩
  | .hbm, ⟨20, _⟩ => ⟨S3x16x8192x8192, .f32⟩
  | .hbm, ⟨21, _⟩ => ⟨S3x16x128x8192, .f32⟩
  | .hbm, ⟨22, _⟩ => ⟨S3x8192x16x128, .f32⟩
  | .hbm, ⟨23, _⟩ => ⟨S24576x2048, .f32⟩
  | .hbm, ⟨24, _⟩ => ⟨S24576x2048, .bf16⟩
  | _, _ => ⟨S3x8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.MergeValue.lean ====
module

public import proofs.«01_k».proof.Defs
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen

variable (V : (c : Dev nD) → (b : Ref sig .tc) → Buf (Elt Ideal) ((c : Thread nD τ).loc b))

theorem index0 : ∀ t : Fin grid0.N, win0_0.index t = ![0, 14656 + 512 * (t.val % 24), 1024 * (t.val / 24)]
    ∧ win0_1.index t = ![t.val / 24, t.val % 24] := by decide +kernel

theorem emb0 (t : Fin grid0.N) (x : (win0_0.xblock (grid0.coords t)).Idx) (a : Fin 3) :
    (((View.whole main_v0).slice (win0_0.rect t)).emb x a : Nat) = win0_0.index t a + x a :=
  win0_0.rect_emb_val_off t x a

def gates (c : Dev nD) : Buf (Elt Ideal) ((c : Thread nD τ).loc main_v1) := fun i : S4096x12288.Idx =>
  V c main_v0 (ix3 (0 : Fin 2) (⟨14656 + (i 1).val, by have h1 : (i 1).val < 12288 := (i 1).isLt; omega⟩ : Fin 26944)
    (⟨(i 0).val, (i 0).isLt⟩ : Fin 4096))

theorem gates_eq (c : Dev nD) : (dat0 V c).arrAt 1 cfg0.N = gates V c := by
  refine (dat0 V c).arrAt_eq_of_covers 1 _ (by decide +kernel) fun t hf y => ?_
  blk_simp
  rw [after0_1]
  frame_out
  have e := index0 t
  unfold gates
  idx_vars y
  pointwise [k0_pay1]
  blk_point [iblk0, e.1, e.2]
  all_goals (refine (emb0 t _ _).trans ?_; rw [e.1]; simp; try omega)

theorem index1 : ∀ t : Fin grid1.N, win1_0.index t = ![0, t.val / 8, t.val % 8]
    ∧ win1_1.index t = ![t.val / 8, t.val % 8] := by decide +kernel

def wa (c : Dev nD) : Buf (Elt Ideal) ((c : Thread nD τ).loc main_v2) := fun i : S2048x4096.Idx =>
  V c main_arg5 (ix3 (0 : Fin 2) (⟨(i 0).val, (i 0).isLt⟩ : Fin 2048) (⟨(i 1).val, (i 1).isLt⟩ : Fin 4096))

theorem wa_eq (c : Dev nD) : (dat1 V c).arrAt 1 cfg1.N = wa V c := by
  refine (dat1 V c).arrAt_eq_of_covers 1 _ (by decide +kernel) fun t hf y => ?_
  blk_simp
  rw [after1_1]
  frame_out
  have e := index1 t
  unfold wa
  idx_vars y
  pointwise [k1_pay1]
  blk_point [iblk1, e.1, e.2]

theorem index2 : ∀ t : Fin grid2.N, win2_0.index t = ![0, t.val / 8, t.val % 8]
    ∧ win2_1.index t = ![t.val / 8, t.val % 8] := by decide +kernel

def wb (c : Dev nD) : Buf (Elt Ideal) ((c : Thread nD τ).loc main_v3) := fun i : S768x4096.Idx =>
  V c main_arg6 (ix3 (0 : Fin 2) (⟨(i 0).val, (i 0).isLt⟩ : Fin 768) (⟨(i 1).val, (i 1).isLt⟩ : Fin 4096))

theorem wb_eq (c : Dev nD) : (dat2 V c).arrAt 1 cfg2.N = wb V c := by
  refine (dat2 V c).arrAt_eq_of_covers 1 _ (by decide +kernel) fun t hf y => ?_
  blk_simp
  rw [after2_1]
  frame_out
  have e := index2 t
  unfold wb
  idx_vars y
  pointwise [k2_pay1]
  blk_point [iblk2, e.1, e.2]

theorem index3 : ∀ t : Fin grid3.N, win3_0.index t = ![0, t.val / 8, t.val % 8]
    ∧ win3_1.index t = ![t.val / 8, t.val % 8] := by decide +kernel

def wc (c : Dev nD) : Buf (Elt Ideal) ((c : Thread nD τ).loc main_v4) := fun i : S2048x4096.Idx =>
  V c main_arg7 (ix3 (0 : Fin 2) (⟨(i 0).val, (i 0).isLt⟩ : Fin 2048) (⟨(i 1).val, (i 1).isLt⟩ : Fin 4096))

theorem wc_eq (c : Dev nD) : (dat3 V c).arrAt 1 cfg3.N = wc V c := by
  refine (dat3 V c).arrAt_eq_of_covers 1 _ (by decide +kernel) fun t hf y => ?_
  blk_simp
  rw [after3_1]
  frame_out
  have e := index3 t
  unfold wc
  idx_vars y
  pointwise [k3_pay1]
  blk_point [iblk3, e.1, e.2]

theorem index4 : ∀ t : Fin grid4.N, win4_0.index t = ![t.val / 16, 0] ∧ win4_1.index t = ![t.val / 16, 0]
    ∧ win4_2.index t = ![t.val / 16, 0] ∧ win4_3.index t = ![t.val / 16, 0]
    ∧ win4_4.index t = ![0, t.val % 16] ∧ win4_5.index t = ![0, 16 + t.val % 16] ∧ win4_6.index t = ![0, 32 + t.val % 16]
    ∧ win4_7.index t = ![0, t.val % 16] ∧ win4_8.index t = ![0, t.val % 16] ∧ win4_9.index t = ![0, t.val % 16]
    ∧ win4_10.index t = ![t.val / 16, t.val % 16] := by decide +kernel

def mergeOf (u : S24576x4096.Idx → EReal) (oa : S24576x2048.Idx → EReal) (ob : S24576x768.Idx → EReal)
    (oc : S24576x2048.Idx → EReal) (g : S4096x12288.Idx → EReal) (pa : S2048x4096.Idx → EReal) (pb : S768x4096.Idx → EReal)
    (pc : S2048x4096.Idx → EReal) : S24576x4096.Idx → EReal := fun i =>
  Ideal.logistic (∑ k : Fin 4096, u (ix2 (i 0) k) * g (ix2 k (⟨(i 1).val, by have h1 : (i 1).val < 4096 := (i 1).isLt; omega⟩ : Fin 12288)))
      * (∑ k : Fin 2048, oa (ix2 (i 0) k) * pa (ix2 k (i 1)))
    + Ideal.logistic (∑ k : Fin 4096, u (ix2 (i 0) k) * g (ix2 k (⟨4096 + (i 1).val, by have h1 : (i 1).val < 4096 := (i 1).isLt; omega⟩ : Fin 12288)))
      * (∑ k : Fin 768, ob (ix2 (i 0) k) * pb (ix2 k (i 1)))
    + Ideal.logistic (∑ k : Fin 4096, u (ix2 (i 0) k) * g (ix2 k (⟨8192 + (i 1).val, by have h1 : (i 1).val < 4096 := (i 1).isLt; omega⟩ : Fin 12288)))
      * (∑ k : Fin 2048, oc (ix2 (i 0) k) * pc (ix2 k (i 1)))

def gateCols (w : S2x4096x26944.Idx → EReal) : S4096x12288.Idx → EReal := fun i =>
  w (ix3 (0 : Fin 2) (⟨(i 0).val, (i 0).isLt⟩ : Fin 4096)
    (⟨14656 + (i 1).val, by have h1 : (i 1).val < 12288 := (i 1).isLt; omega⟩ : Fin 26944))

def firstA (w : S2x2048x4096.Idx → EReal) : S2048x4096.Idx → EReal := fun i =>
  w (ix3 (0 : Fin 2) (⟨(i 0).val, (i 0).isLt⟩ : Fin 2048) (⟨(i 1).val, (i 1).isLt⟩ : Fin 4096))

def firstB (w : S2x768x4096.Idx → EReal) : S768x4096.Idx → EReal := fun i =>
  w (ix3 (0 : Fin 2) (⟨(i 0).val, (i 0).isLt⟩ : Fin 768) (⟨(i 1).val, (i 1).isLt⟩ : Fin 4096))

def merged (c : Dev nD) : Buf (Elt Ideal) ((c : Thread nD τ).loc main_v5) :=
  mergeOf (V c main_arg0) (V c main_arg1) (V c main_arg2) (V c main_arg3) (V c main_v1) (V c main_v2) (V c main_v3) (V c main_v4)

theorem merged_eq (c : Dev nD) : (dat4 V c).arrAt 10 cfg4.N = merged V c := by
  refine (dat4 V c).arrAt_eq_of_covers 10 _ (by decide +kernel) fun t hf y => ?_
  blk_simp
  rw [after4_10]
  frame_out
  obtain ⟨e0, e1, e2, e3, e4, e5, e6, e7, e8, e9, e10⟩ := index4 t
  unfold merged mergeOf
  idx_vars y
  pointwise [k4_pay1]
  blk_point [iblk4, e0, e1, e2, e3, e4, e5, e6, e7, e8, e9, e10]

end Cert.KernelIdeal.Merge

end
-- ==== Proof.MergeRun.lean ====
module

public import proofs.«01_k».proof.Proof.MergeValue

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Merge

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the program computes from its arguments. -/
def result (c : Dev nD) : Buf (Elt Ideal) ((c : Thread nD τ).loc main_v5) :=
  mergeOf (m ((c : Thread nD τ).loc main_arg0)) (m ((c : Thread nD τ).loc main_arg1)) (m ((c : Thread nD τ).loc main_arg2))
    (m ((c : Thread nD τ).loc main_arg3)) (gateCols (m ((c : Thread nD τ).loc main_arg4)))
    (firstA (m ((c : Thread nD τ).loc main_arg5))) (firstB (m ((c : Thread nD τ).loc main_arg6)))
    (firstA (m ((c : Thread nD τ).loc main_arg7)))

theorem entry (c : Dev nD) : V1 m ρ c main_v0
    = transpose S2x26944x4096 [0, 2, 1] (m ((c : Thread nD τ).loc main_arg4)) transposes_S2x4096x26944_S2x26944x4096_0_2_1 := by
  show StableHlo.after hostOps0 (W0 m ρ c) (Proc.devRef .tc main_v0) = _
  after_results_simp <;> rfl

theorem gates_entry (c : Dev nD) : V2 m ρ c main_v1 = gateCols (m ((c : Thread nD τ).loc main_arg4)) := by
  refine (W2_arr m ρ c 1).trans ?_
  rw [gates_eq]
  funext i
  unfold gates gateCols
  rw [entry]
  idx_vars i
  pointwise []

theorem result_eq (c : Dev nD) : W6 m ρ c (Proc.devRef .tc main_v5) = result m c := by
  refine (W6_arr m ρ c 10).trans ?_
  rw [merged_eq]
  unfold merged result
  have a0 : V5 m ρ c main_arg0 = m ((c : Thread nD τ).loc main_arg0) := W5_args m ρ c main_arg0 (by simp)
  have a1 : V5 m ρ c main_arg1 = m ((c : Thread nD τ).loc main_arg1) := W5_args m ρ c main_arg1 (by simp)
  have a2 : V5 m ρ c main_arg2 = m ((c : Thread nD τ).loc main_arg2) := W5_args m ρ c main_arg2 (by simp)
  have a3 : V5 m ρ c main_arg3 = m ((c : Thread nD τ).loc main_arg3) := W5_args m ρ c main_arg3 (by simp)
  have g : V5 m ρ c main_v1 = gateCols (m ((c : Thread nD τ).loc main_arg4)) :=
    (W5_of m ρ c main_v1 (by decide)).trans <| (W4_of m ρ c main_v1 (by decide)).trans <|
      (W3_of m ρ c main_v1 (by decide)).trans (gates_entry m ρ c)
  have b2 : V5 m ρ c main_v2 = firstA (m ((c : Thread nD τ).loc main_arg5)) := by
    refine (W5_of m ρ c main_v2 (by decide)).trans <| (W4_of m ρ c main_v2 (by decide)).trans <| (W3_arr m ρ c 1).trans ?_
    rw [wa_eq]; unfold wa firstA
    rw [show V2 m ρ c main_arg5 = m ((c : Thread nD τ).loc main_arg5) from W2_args m ρ c main_arg5 (by simp)]
  have b3 : V5 m ρ c main_v3 = firstB (m ((c : Thread nD τ).loc main_arg6)) := by
    refine (W5_of m ρ c main_v3 (by decide)).trans <| (W4_arr m ρ c 1).trans ?_
    rw [wb_eq]; unfold wb firstB
    rw [show V3 m ρ c main_arg6 = m ((c : Thread nD τ).loc main_arg6) from W3_args m ρ c main_arg6 (by simp)]
  have b4 : V5 m ρ c main_v4 = firstA (m ((c : Thread nD τ).loc main_arg7)) := by
    refine (W5_arr m ρ c 1).trans ?_
    rw [wc_eq]; unfold wc firstA
    rw [show V4 m ρ c main_arg7 = m ((c : Thread nD τ).loc main_arg7) from W4_args m ρ c main_arg7 (by simp)]
  rw [a0, a1, a2, a3, g, b2, b3, b4]

set_option backward.isDefEq.respectTransparency.types false in
/-- THE RUN: from any memory with zero counters every weakly fair execution of the program terminates with the
    merge's result in its result array, its arguments unchanged and every semaphore counter at zero. -/
theorem run : θ_run defs (onTc (τ := τ) (main (F := Ideal))) ⟨m, fun _ => 0, ρ⟩ (fun r => (∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_v5 (by decide))).trans (result_eq m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩), funext fun g => hz g (.inr (no_unscoped g.2))⟩)

end Cert.KernelIdeal.Merge

end
-- ==== Proof.DownTwoIdealBody.lean ====
module

public import proofs.«01_k».proof.Proof.Gen.DownTwoIdeal.Frame
public import proofs.«01_k».proof.Proof.Gen.DownTwoIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.DownTwoIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The two-output residual. The first 128 points store the first output's rows, the other 256 the second's; at each
    quarter `k` of the contracted axis the first point stores its product, the two middle ones add theirs, the last
    scales the sum and adds the residual. The window of the output that a point does not store is left as it was. -/

/-- The points of the first output, and of each quarter. -/
theorem hrow1 : ∀ t : Fin cfg0.N, k0_cond1 (grid0.coords t) = 1#1 ↔ t.val < 128 :=
  (by decide +kernel : ∀ t : Fin grid0.N, k0_cond1 (grid0.coords t) = 1#1 ↔ t.val < 128)
theorem hrow5 : ∀ t : Fin cfg0.N, k0_cond5 (grid0.coords t) = 1#1 ↔ 128 ≤ t.val :=
  (by decide +kernel : ∀ t : Fin grid0.N, k0_cond5 (grid0.coords t) = 1#1 ↔ 128 ≤ t.val)
theorem hquarter2 : ∀ t : Fin cfg0.N, k0_cond2 (grid0.coords t) = 1#1 ↔ t.val % 4 = 0 :=
  (by decide +kernel : ∀ t : Fin grid0.N, k0_cond2 (grid0.coords t) = 1#1 ↔ t.val % 4 = 0)
theorem hquarter3 : ∀ t : Fin cfg0.N, k0_cond3 (grid0.coords t) = 1#1 ↔ (1 ≤ t.val % 4 ∧ t.val % 4 ≤ 2) :=
  (by decide +kernel : ∀ t : Fin grid0.N, k0_cond3 (grid0.coords t) = 1#1 ↔ (1 ≤ t.val % 4 ∧ t.val % 4 ≤ 2))
theorem hquarter4 : ∀ t : Fin cfg0.N, k0_cond4 (grid0.coords t) = 1#1 ↔ t.val % 4 = 3 :=
  (by decide +kernel : ∀ t : Fin grid0.N, k0_cond4 (grid0.coords t) = 1#1 ↔ t.val % 4 = 3)
theorem hquarter6 : ∀ t : Fin cfg0.N, k0_cond6 (grid0.coords t) = 1#1 ↔ t.val % 4 = 0 :=
  (by decide +kernel : ∀ t : Fin grid0.N, k0_cond6 (grid0.coords t) = 1#1 ↔ t.val % 4 = 0)
theorem hquarter7 : ∀ t : Fin cfg0.N, k0_cond7 (grid0.coords t) = 1#1 ↔ (1 ≤ t.val % 4 ∧ t.val % 4 ≤ 2) :=
  (by decide +kernel : ∀ t : Fin grid0.N, k0_cond7 (grid0.coords t) = 1#1 ↔ (1 ≤ t.val % 4 ∧ t.val % 4 ≤ 2))
theorem hquarter8 : ∀ t : Fin cfg0.N, k0_cond8 (grid0.coords t) = 1#1 ↔ t.val % 4 = 3 :=
  (by decide +kernel : ∀ t : Fin grid0.N, k0_cond8 (grid0.coords t) = 1#1 ↔ t.val % 4 = 3)

theorem live_in0 (t : Fin cfg0.N) : cfg0.idle 0 (grid0.coords t) = false := rfl
theorem live_in1 (t : Fin cfg0.N) : cfg0.idle 1 (grid0.coords t) = false := rfl
theorem live_in2 (t : Fin cfg0.N) : cfg0.idle 2 (grid0.coords t) = false := rfl
theorem idle_out3 : ∀ t : Fin cfg0.N, cfg0.idle 3 (grid0.coords t) = decide (128 ≤ t.val) := by decide +kernel
theorem idle_out4 : ∀ t : Fin cfg0.N, cfg0.idle 4 (grid0.coords t) = decide (t.val < 128) := by decide +kernel

/-- When each output's block is written back. -/
theorem flush_out3 : ∀ t : Fin cfg0.N, (cfg0.win 3).flush t = decide ((t.val < 124 ∧ t.val % 4 = 3) ∨ t.val = 383) := fun t => by
  rw [Pipeline.Window.flush_eq_flushF]; revert t; decide +kernel
theorem flush_out4 : ∀ t : Fin cfg0.N, (cfg0.win 4).flush t = decide (128 ≤ t.val ∧ t.val % 4 = 3) := fun t => by
  rw [Pipeline.Window.flush_eq_flushF]; revert t; decide +kernel

/-- When an output's buffer holds nothing yet. -/
def fresh3 (n : ℕ) : Bool := decide ((n < 128 ∧ n % 4 = 0) ∨ 384 ≤ n)
def fresh4 (n : ℕ) : Bool := decide (n ≤ 128 ∨ n % 4 = 0)

theorem fresh3_eq (t : Fin cfg0.N) : cfg0.fresh 3 t.val = fresh3 t.val :=
  Pipeline.Cfg.fresh_tab cfg0 3 fresh3 rfl (fun t => by
    rw [flush_out3, idle_out3]
    have hN : t.val < 384 := lt_of_lt_of_eq t.isLt (show cfg0.N = 384 from N_0)
    unfold fresh3
    rw [Bool.eq_iff_iff]
    simp only [Bool.or_eq_true, Bool.and_eq_true, decide_eq_true_eq]
    omega) t.val (Nat.le_of_lt t.isLt)
theorem fresh4_eq (t : Fin cfg0.N) : cfg0.fresh 4 t.val = fresh4 t.val :=
  Pipeline.Cfg.fresh_tab cfg0 4 fresh4 rfl (fun t => by
    rw [flush_out4, idle_out4]
    have hN : t.val < 384 := lt_of_lt_of_eq t.isLt (show cfg0.N = 384 from N_0)
    unfold fresh4
    rw [Bool.eq_iff_iff]
    simp only [Bool.or_eq_true, Bool.and_eq_true, decide_eq_true_eq]
    omega) t.val (Nat.le_of_lt t.isLt)

/-- One staging buffer of each output, through which its contents are stated. -/
abbrev VO0_3 : View sig .tc .vmem S1024x1024 .f32 := (Memref.whole cc0_stg3_0 : Memref sig .tc .vmem S1024x1024 .f32).view
abbrev VO0_4 : View sig .tc .vmem S1024x1024 .f32 := (Memref.whole cc0_stg4_0 : Memref sig .tc .vmem S1024x1024 .f32).view

/-- Each window's staging memref at a point. -/
abbrev ms0_0 (t : Fin cfg0.N) : Memref sig .tc .vmem S1024x2816 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2816x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)

set_option maxHeartbeats 1000000 in
/-- What the body stores at the first quarter of output 0's rows, with its run: the other output's buffer is not touched. -/
noncomputable def kernelRun0_A (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc1 : k0_cond1 i = 1#1) (hc5 : ¬k0_cond5 i = 1#1) (hc2 : k0_cond2 i = 1#1) (hc3 : ¬k0_cond3 i = 1#1) (hc4 : ¬k0_cond4 i = 1#1)
    (x0 : Vec F S1024x2816 .bf16) (x1 : Vec F S2816x1024 .bf16) (x2 : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L)) -∗ K ⟨⟩))
          ⊢ wp frame (wpE (defs₀ (F := F)) Variants.none c none) E (cc0_mm_residual i arg3 harg3 arg4 harg4 arg5 harg5 arg6 harg6 arg7 harg7) K } := by
  refine ⟨?_, fun E K => ?run⟩
  case run =>
    simp only [cc0_mm_residual_eq_skeleton]; unfold cc0_mm_residual_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | sl_exact hc1 | sl_exact hc5 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

theorem cover0_A_3 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc1 : k0_cond1 i = 1#1) (hc5 : ¬k0_cond5 i = 1#1) (hc2 : k0_cond2 i = 1#1) (hc3 : ¬k0_cond3 i = 1#1) (hc4 : ¬k0_cond4 i = 1#1)
    (x0 : Vec F S1024x2816 .bf16) (x1 : Vec F S2816x1024 .bf16) (x2 : Vec F S1024x1024 .f32) (y : S1024x1024.Idx) :
    ∃ pc ∈ (kernelRun0_A c i arg3 harg3 arg4 harg4 arg5 harg5 arg6 harg6 arg7 harg7 hc1 hc5 hc2 hc3 hc4 x0 x1 x2).1, y ∈ pc.1.set :=
  View.cover_of_tiledL (kernelRun0_A c i arg3 harg3 arg4 harg4 arg5 harg5 arg6 harg6 arg7 harg7 hc1 hc5 hc2 hc3 hc4 x0 x1 x2).1 S1024x1024.size (by sl_kernel_rfl) y

/-- What it leaves in the output's buffer. -/
def out0_A_3 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc1 : k0_cond1 i = 1#1) (hc5 : ¬k0_cond5 i = 1#1) (hc2 : k0_cond2 i = 1#1) (hc3 : ¬k0_cond3 i = 1#1) (hc4 : ¬k0_cond4 i = 1#1)
    (x0 : Vec F S1024x2816 .bf16) (x1 : Vec F S2816x1024 .bf16) (x2 : Vec F S1024x1024 .f32) : Vec F S1024x1024 .f32 :=
  VO0_3.read (Elt F) (VO0_3.writes (Elt F) VO0_3.junk (kernelRun0_A c i arg3 harg3 arg4 harg4 arg5 harg5 arg6 harg6 arg7 harg7 hc1 hc5 hc2 hc3 hc4 x0 x1 x2).1)

set_option maxHeartbeats 1000000 in
/-- What the body stores at a middle quarter of output 0's rows, with its run: the other output's buffer is not touched. -/
noncomputable def kernelRun0_B (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc1 : k0_cond1 i = 1#1) (hc5 : ¬k0_cond5 i = 1#1) (hc2 : ¬k0_cond2 i = 1#1) (hc3 : k0_cond3 i = 1#1) (hc4 : ¬k0_cond4 i = 1#1)
    (x0 : Vec F S1024x2816 .bf16) (x1 : Vec F S2816x1024 .bf16) (x2 : Vec F S1024x1024 .f32) (xo : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L)) -∗ K ⟨⟩))
          ⊢ wp frame (wpE (defs₀ (F := F)) Variants.none c none) E (cc0_mm_residual i arg3 harg3 arg4 harg4 arg5 harg5 arg6 harg6 arg7 harg7) K } := by
  refine ⟨?_, fun E K => ?run⟩
  case run =>
    simp only [cc0_mm_residual_eq_skeleton]; unfold cc0_mm_residual_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc1 | sl_exact hc5 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

theorem cover0_B_3 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc1 : k0_cond1 i = 1#1) (hc5 : ¬k0_cond5 i = 1#1) (hc2 : ¬k0_cond2 i = 1#1) (hc3 : k0_cond3 i = 1#1) (hc4 : ¬k0_cond4 i = 1#1)
    (x0 : Vec F S1024x2816 .bf16) (x1 : Vec F S2816x1024 .bf16) (x2 : Vec F S1024x1024 .f32) (xo : Vec F S1024x1024 .f32) (y : S1024x1024.Idx) :
    ∃ pc ∈ (kernelRun0_B c i arg3 harg3 arg4 harg4 arg5 harg5 arg6 harg6 arg7 harg7 hc1 hc5 hc2 hc3 hc4 x0 x1 x2 xo).1, y ∈ pc.1.set :=
  View.cover_of_tiledL (kernelRun0_B c i arg3 harg3 arg4 harg4 arg5 harg5 arg6 harg6 arg7 harg7 hc1 hc5 hc2 hc3 hc4 x0 x1 x2 xo).1 S1024x1024.size (by sl_kernel_rfl) y

/-- What it leaves in the output's buffer. -/
def out0_B_3 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc1 : k0_cond1 i = 1#1) (hc5 : ¬k0_cond5 i = 1#1) (hc2 : ¬k0_cond2 i = 1#1) (hc3 : k0_cond3 i = 1#1) (hc4 : ¬k0_cond4 i = 1#1)
    (x0 : Vec F S1024x2816 .bf16) (x1 : Vec F S2816x1024 .bf16) (x2 : Vec F S1024x1024 .f32) (xo : Vec F S1024x1024 .f32) : Vec F S1024x1024 .f32 :=
  VO0_3.read (Elt F) (VO0_3.writes (Elt F) VO0_3.junk (kernelRun0_B c i arg3 harg3 arg4 harg4 arg5 harg5 arg6 harg6 arg7 harg7 hc1 hc5 hc2 hc3 hc4 x0 x1 x2 xo).1)

set_option maxHeartbeats 1000000 in
/-- What the body stores at the last quarter of output 0's rows, with its run: the other output's buffer is not touched. -/
noncomputable def kernelRun0_C (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc1 : k0_cond1 i = 1#1) (hc5 : ¬k0_cond5 i = 1#1) (hc2 : ¬k0_cond2 i = 1#1) (hc3 : ¬k0_cond3 i = 1#1) (hc4 : k0_cond4 i = 1#1)
    (x0 : Vec F S1024x2816 .bf16) (x1 : Vec F S2816x1024 .bf16) (x2 : Vec F S1024x1024 .f32) (xo : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L)) -∗ K ⟨⟩))
          ⊢ wp frame (wpE (defs₀ (F := F)) Variants.none c none) E (cc0_mm_residual i arg3 harg3 arg4 harg4 arg5 harg5 arg6 harg6 arg7 harg7) K } := by
  refine ⟨?_, fun E K => ?run⟩
  case run =>
    simp only [cc0_mm_residual_eq_skeleton]; unfold cc0_mm_residual_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc1 | sl_exact hc5 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

theorem cover0_C_3 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc1 : k0_cond1 i = 1#1) (hc5 : ¬k0_cond5 i = 1#1) (hc2 : ¬k0_cond2 i = 1#1) (hc3 : ¬k0_cond3 i = 1#1) (hc4 : k0_cond4 i = 1#1)
    (x0 : Vec F S1024x2816 .bf16) (x1 : Vec F S2816x1024 .bf16) (x2 : Vec F S1024x1024 .f32) (xo : Vec F S1024x1024 .f32) (y : S1024x1024.Idx) :
    ∃ pc ∈ (kernelRun0_C c i arg3 harg3 arg4 harg4 arg5 harg5 arg6 harg6 arg7 harg7 hc1 hc5 hc2 hc3 hc4 x0 x1 x2 xo).1, y ∈ pc.1.set :=
  View.cover_of_tiledL (kernelRun0_C c i arg3 harg3 arg4 harg4 arg5 harg5 arg6 harg6 arg7 harg7 hc1 hc5 hc2 hc3 hc4 x0 x1 x2 xo).1 S1024x1024.size (by sl_kernel_rfl) y

/-- What it leaves in the output's buffer. -/
def out0_C_3 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc1 : k0_cond1 i = 1#1) (hc5 : ¬k0_cond5 i = 1#1) (hc2 : ¬k0_cond2 i = 1#1) (hc3 : ¬k0_cond3 i = 1#1) (hc4 : k0_cond4 i = 1#1)
    (x0 : Vec F S1024x2816 .bf16) (x1 : Vec F S2816x1024 .bf16) (x2 : Vec F S1024x1024 .f32) (xo : Vec F S1024x1024 .f32) : Vec F S1024x1024 .f32 :=
  VO0_3.read (Elt F) (VO0_3.writes (Elt F) VO0_3.junk (kernelRun0_C c i arg3 harg3 arg4 harg4 arg5 harg5 arg6 harg6 arg7 harg7 hc1 hc5 hc2 hc3 hc4 x0 x1 x2 xo).1)

set_option maxHeartbeats 1000000 in
/-- What the body stores at the first quarter of output 1's rows, with its run: the other output's buffer is not touched. -/
noncomputable def kernelRun0_D (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc5 : k0_cond5 i = 1#1) (hc1 : ¬k0_cond1 i = 1#1) (hc6 : k0_cond6 i = 1#1) (hc7 : ¬k0_cond7 i = 1#1) (hc8 : ¬k0_cond8 i = 1#1)
    (x0 : Vec F S1024x2816 .bf16) (x1 : Vec F S2816x1024 .bf16) (x2 : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg7.view.loc (c : Thread nD τ) ↦[arg7.view.set]{fullShare} arg7.view.writes (Elt F) f L)) -∗ K ⟨⟩))
          ⊢ wp frame (wpE (defs₀ (F := F)) Variants.none c none) E (cc0_mm_residual i arg3 harg3 arg4 harg4 arg5 harg5 arg6 harg6 arg7 harg7) K } := by
  refine ⟨?_, fun E K => ?run⟩
  case run =>
    simp only [cc0_mm_residual_eq_skeleton]; unfold cc0_mm_residual_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | sl_exact hc5 | sl_exact hc1 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

theorem cover0_D_4 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc5 : k0_cond5 i = 1#1) (hc1 : ¬k0_cond1 i = 1#1) (hc6 : k0_cond6 i = 1#1) (hc7 : ¬k0_cond7 i = 1#1) (hc8 : ¬k0_cond8 i = 1#1)
    (x0 : Vec F S1024x2816 .bf16) (x1 : Vec F S2816x1024 .bf16) (x2 : Vec F S1024x1024 .f32) (y : S1024x1024.Idx) :
    ∃ pc ∈ (kernelRun0_D c i arg3 harg3 arg4 harg4 arg5 harg5 arg6 harg6 arg7 harg7 hc5 hc1 hc6 hc7 hc8 x0 x1 x2).1, y ∈ pc.1.set :=
  View.cover_of_tiledL (kernelRun0_D c i arg3 harg3 arg4 harg4 arg5 harg5 arg6 harg6 arg7 harg7 hc5 hc1 hc6 hc7 hc8 x0 x1 x2).1 S1024x1024.size (by sl_kernel_rfl) y

/-- What it leaves in the output's buffer. -/
def out0_D_4 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc5 : k0_cond5 i = 1#1) (hc1 : ¬k0_cond1 i = 1#1) (hc6 : k0_cond6 i = 1#1) (hc7 : ¬k0_cond7 i = 1#1) (hc8 : ¬k0_cond8 i = 1#1)
    (x0 : Vec F S1024x2816 .bf16) (x1 : Vec F S2816x1024 .bf16) (x2 : Vec F S1024x1024 .f32) : Vec F S1024x1024 .f32 :=
  VO0_4.read (Elt F) (VO0_4.writes (Elt F) VO0_4.junk (kernelRun0_D c i arg3 harg3 arg4 harg4 arg5 harg5 arg6 harg6 arg7 harg7 hc5 hc1 hc6 hc7 hc8 x0 x1 x2).1)

set_option maxHeartbeats 1000000 in
/-- What the body stores at a middle quarter of output 1's rows, with its run: the other output's buffer is not touched. -/
noncomputable def kernelRun0_E (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc5 : k0_cond5 i = 1#1) (hc1 : ¬k0_cond1 i = 1#1) (hc6 : ¬k0_cond6 i = 1#1) (hc7 : k0_cond7 i = 1#1) (hc8 : ¬k0_cond8 i = 1#1)
    (x0 : Vec F S1024x2816 .bf16) (x1 : Vec F S2816x1024 .bf16) (x2 : Vec F S1024x1024 .f32) (xo : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg7 fullShare xo
            ∗ (iprop(owns (c : Thread nD τ) arg3 fullShare x0 ∗ owns (c : Thread nD τ) arg4 fullShare x1 ∗ owns (c : Thread nD τ) arg5 fullShare x2 ∗ (∃ f, arg7.view.loc (c : Thread nD τ) ↦[arg7.view.set]{fullShare} arg7.view.writes (Elt F) f L)) -∗ K ⟨⟩))
          ⊢ wp frame (wpE (defs₀ (F := F)) Variants.none c none) E (cc0_mm_residual i arg3 harg3 arg4 harg4 arg5 harg5 arg6 harg6 arg7 harg7) K } := by
  refine ⟨?_, fun E K => ?run⟩
  case run =>
    simp only [cc0_mm_residual_eq_skeleton]; unfold cc0_mm_residual_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg7.eq_unread hf3
    sl_exec (disch := first | sl_exact hc5 | sl_exact hc1 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

theorem cover0_E_4 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc5 : k0_cond5 i = 1#1) (hc1 : ¬k0_cond1 i = 1#1) (hc6 : ¬k0_cond6 i = 1#1) (hc7 : k0_cond7 i = 1#1) (hc8 : ¬k0_cond8 i = 1#1)
    (x0 : Vec F S1024x2816 .bf16) (x1 : Vec F S2816x1024 .bf16) (x2 : Vec F S1024x1024 .f32) (xo : Vec F S1024x1024 .f32) (y : S1024x1024.Idx) :
    ∃ pc ∈ (kernelRun0_E c i arg3 harg3 arg4 harg4 arg5 harg5 arg6 harg6 arg7 harg7 hc5 hc1 hc6 hc7 hc8 x0 x1 x2 xo).1, y ∈ pc.1.set :=
  View.cover_of_tiledL (kernelRun0_E c i arg3 harg3 arg4 harg4 arg5 harg5 arg6 harg6 arg7 harg7 hc5 hc1 hc6 hc7 hc8 x0 x1 x2 xo).1 S1024x1024.size (by sl_kernel_rfl) y

/-- What it leaves in the output's buffer. -/
def out0_E_4 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc5 : k0_cond5 i = 1#1) (hc1 : ¬k0_cond1 i = 1#1) (hc6 : ¬k0_cond6 i = 1#1) (hc7 : k0_cond7 i = 1#1) (hc8 : ¬k0_cond8 i = 1#1)
    (x0 : Vec F S1024x2816 .bf16) (x1 : Vec F S2816x1024 .bf16) (x2 : Vec F S1024x1024 .f32) (xo : Vec F S1024x1024 .f32) : Vec F S1024x1024 .f32 :=
  VO0_4.read (Elt F) (VO0_4.writes (Elt F) VO0_4.junk (kernelRun0_E c i arg3 harg3 arg4 harg4 arg5 harg5 arg6 harg6 arg7 harg7 hc5 hc1 hc6 hc7 hc8 x0 x1 x2 xo).1)

set_option maxHeartbeats 1000000 in
/-- What the body stores at the last quarter of output 1's rows, with its run: the other output's buffer is not touched. -/
noncomputable def kernelRun0_G (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc5 : k0_cond5 i = 1#1) (hc1 : ¬k0_cond1 i = 1#1) (hc6 : ¬k0_cond6 i = 1#1) (hc7 : ¬k0_cond7 i = 1#1) (hc8 : k0_cond8 i = 1#1)
    (x0 : Vec F S1024x2816 .bf16) (x1 : Vec F S2816x1024 .bf16) (x2 : Vec F S1024x1024 .f32) (xo : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg7 fullShare xo
            ∗ (iprop(owns (c : Thread nD τ) arg3 fullShare x0 ∗ owns (c : Thread nD τ) arg4 fullShare x1 ∗ owns (c : Thread nD τ) arg5 fullShare x2 ∗ (∃ f, arg7.view.loc (c : Thread nD τ) ↦[arg7.view.set]{fullShare} arg7.view.writes (Elt F) f L)) -∗ K ⟨⟩))
          ⊢ wp frame (wpE (defs₀ (F := F)) Variants.none c none) E (cc0_mm_residual i arg3 harg3 arg4 harg4 arg5 harg5 arg6 harg6 arg7 harg7) K } := by
  refine ⟨?_, fun E K => ?run⟩
  case run =>
    simp only [cc0_mm_residual_eq_skeleton]; unfold cc0_mm_residual_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg7.eq_unread hf3
    sl_exec (disch := first | sl_exact hc5 | sl_exact hc1 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

theorem cover0_G_4 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc5 : k0_cond5 i = 1#1) (hc1 : ¬k0_cond1 i = 1#1) (hc6 : ¬k0_cond6 i = 1#1) (hc7 : ¬k0_cond7 i = 1#1) (hc8 : k0_cond8 i = 1#1)
    (x0 : Vec F S1024x2816 .bf16) (x1 : Vec F S2816x1024 .bf16) (x2 : Vec F S1024x1024 .f32) (xo : Vec F S1024x1024 .f32) (y : S1024x1024.Idx) :
    ∃ pc ∈ (kernelRun0_G c i arg3 harg3 arg4 harg4 arg5 harg5 arg6 harg6 arg7 harg7 hc5 hc1 hc6 hc7 hc8 x0 x1 x2 xo).1, y ∈ pc.1.set :=
  View.cover_of_tiledL (kernelRun0_G c i arg3 harg3 arg4 harg4 arg5 harg5 arg6 harg6 arg7 harg7 hc5 hc1 hc6 hc7 hc8 x0 x1 x2 xo).1 S1024x1024.size (by sl_kernel_rfl) y

/-- What it leaves in the output's buffer. -/
def out0_G_4 (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc5 : k0_cond5 i = 1#1) (hc1 : ¬k0_cond1 i = 1#1) (hc6 : ¬k0_cond6 i = 1#1) (hc7 : ¬k0_cond7 i = 1#1) (hc8 : k0_cond8 i = 1#1)
    (x0 : Vec F S1024x2816 .bf16) (x1 : Vec F S2816x1024 .bf16) (x2 : Vec F S1024x1024 .f32) (xo : Vec F S1024x1024 .f32) : Vec F S1024x1024 .f32 :=
  VO0_4.read (Elt F) (VO0_4.writes (Elt F) VO0_4.junk (kernelRun0_G c i arg3 harg3 arg4 harg4 arg5 harg5 arg6 harg6 arg7 harg7 hc5 hc1 hc6 hc7 hc8 x0 x1 x2 xo).1)

/-- The same at a point. -/
def atA (c : Dev nD) (t : Fin cfg0.N) (hr : t.val < 128) (hq : t.val % 4 = 0) : Vec F S1024x1024 .f32 :=
  out0_A_3 c (grid0.coords t) (ms0_0 t) (hs0_0 t) (ms0_1 t) (hs0_1 t) (ms0_2 t) (hs0_2 t) (ms0_3 t) (hs0_3 t) (ms0_4 t) (hs0_4 t) ((hrow1 t).mpr (by omega)) (fun h => absurd ((hrow5 t).mp h) (by omega)) ((hquarter2 t).mpr (by omega)) (fun h => absurd ((hquarter3 t).mp h) (by omega)) (fun h => absurd ((hquarter4 t).mp h) (by omega)) (iblk m c 0 t) (iblk m c 1 t) (iblk m c 2 t)

/-- The same at a point. -/
def atB (c : Dev nD) (t : Fin cfg0.N) (hr : t.val < 128) (hq : (1 ≤ t.val % 4 ∧ t.val % 4 ≤ 2)) (xo : Vec F S1024x1024 .f32) : Vec F S1024x1024 .f32 :=
  out0_B_3 c (grid0.coords t) (ms0_0 t) (hs0_0 t) (ms0_1 t) (hs0_1 t) (ms0_2 t) (hs0_2 t) (ms0_3 t) (hs0_3 t) (ms0_4 t) (hs0_4 t) ((hrow1 t).mpr (by omega)) (fun h => absurd ((hrow5 t).mp h) (by omega)) (fun h => absurd ((hquarter2 t).mp h) (by omega)) ((hquarter3 t).mpr (by omega)) (fun h => absurd ((hquarter4 t).mp h) (by omega)) (iblk m c 0 t) (iblk m c 1 t) (iblk m c 2 t) xo

/-- The same at a point. -/
def atC (c : Dev nD) (t : Fin cfg0.N) (hr : t.val < 128) (hq : t.val % 4 = 3) (xo : Vec F S1024x1024 .f32) : Vec F S1024x1024 .f32 :=
  out0_C_3 c (grid0.coords t) (ms0_0 t) (hs0_0 t) (ms0_1 t) (hs0_1 t) (ms0_2 t) (hs0_2 t) (ms0_3 t) (hs0_3 t) (ms0_4 t) (hs0_4 t) ((hrow1 t).mpr (by omega)) (fun h => absurd ((hrow5 t).mp h) (by omega)) (fun h => absurd ((hquarter2 t).mp h) (by omega)) (fun h => absurd ((hquarter3 t).mp h) (by omega)) ((hquarter4 t).mpr (by omega)) (iblk m c 0 t) (iblk m c 1 t) (iblk m c 2 t) xo

/-- The same at a point. -/
def atD (c : Dev nD) (t : Fin cfg0.N) (hr : 128 ≤ t.val) (hq : t.val % 4 = 0) : Vec F S1024x1024 .f32 :=
  out0_D_4 c (grid0.coords t) (ms0_0 t) (hs0_0 t) (ms0_1 t) (hs0_1 t) (ms0_2 t) (hs0_2 t) (ms0_3 t) (hs0_3 t) (ms0_4 t) (hs0_4 t) ((hrow5 t).mpr (by omega)) (fun h => absurd ((hrow1 t).mp h) (by omega)) ((hquarter6 t).mpr (by omega)) (fun h => absurd ((hquarter7 t).mp h) (by omega)) (fun h => absurd ((hquarter8 t).mp h) (by omega)) (iblk m c 0 t) (iblk m c 1 t) (iblk m c 2 t)

/-- The same at a point. -/
def atE (c : Dev nD) (t : Fin cfg0.N) (hr : 128 ≤ t.val) (hq : (1 ≤ t.val % 4 ∧ t.val % 4 ≤ 2)) (xo : Vec F S1024x1024 .f32) : Vec F S1024x1024 .f32 :=
  out0_E_4 c (grid0.coords t) (ms0_0 t) (hs0_0 t) (ms0_1 t) (hs0_1 t) (ms0_2 t) (hs0_2 t) (ms0_3 t) (hs0_3 t) (ms0_4 t) (hs0_4 t) ((hrow5 t).mpr (by omega)) (fun h => absurd ((hrow1 t).mp h) (by omega)) (fun h => absurd ((hquarter6 t).mp h) (by omega)) ((hquarter7 t).mpr (by omega)) (fun h => absurd ((hquarter8 t).mp h) (by omega)) (iblk m c 0 t) (iblk m c 1 t) (iblk m c 2 t) xo

/-- The same at a point. -/
def atG (c : Dev nD) (t : Fin cfg0.N) (hr : 128 ≤ t.val) (hq : t.val % 4 = 3) (xo : Vec F S1024x1024 .f32) : Vec F S1024x1024 .f32 :=
  out0_G_4 c (grid0.coords t) (ms0_0 t) (hs0_0 t) (ms0_1 t) (hs0_1 t) (ms0_2 t) (hs0_2 t) (ms0_3 t) (hs0_3 t) (ms0_4 t) (hs0_4 t) ((hrow5 t).mpr (by omega)) (fun h => absurd ((hrow1 t).mp h) (by omega)) (fun h => absurd ((hquarter6 t).mp h) (by omega)) (fun h => absurd ((hquarter7 t).mp h) (by omega)) ((hquarter8 t).mpr (by omega)) (iblk m c 0 t) (iblk m c 1 t) (iblk m c 2 t) xo

/-- What output 0's buffer holds after a point, from what it held before: what the point stores, else the same. -/
def step3 (c : Dev nD) (t : Fin cfg0.N) (xo : Vec F S1024x1024 .f32) : Vec F S1024x1024 .f32 :=
  if hr : t.val < 128 then
    if h0 : t.val % 4 = 0 then atA m c t hr h0
    else if h2 : t.val % 4 = 3 then atC m c t hr h2 xo
    else atB m c t hr (by omega) xo
  else xo

/-- What it holds after each point. -/
def outs3 (c : Dev nD) (n : ℕ) : n < cfg0.N → Vec F S1024x1024 .f32 :=
  Nat.rec (motive := fun n => n < cfg0.N → Vec F S1024x1024 .f32)
    (fun hn => step3 m c ⟨0, hn⟩ (VO0_3.read (Elt F) VO0_3.junk))
    (fun n ih hn => step3 m c ⟨n + 1, hn⟩ (ih (Nat.lt_of_succ_lt hn))) n

theorem outs3_step (c : Dev nD) (t : Fin cfg0.N) (h : t.val ≠ 0) :
    outs3 m c t.val t.isLt = step3 m c t (outs3 m c (t.val - 1) (Nat.lt_of_le_of_lt (Nat.sub_le _ _) t.isLt)) := by
  obtain ⟨n, hn⟩ := t
  cases n with
  | zero => exact absurd rfl h
  | succ n => rfl
theorem outs3_any (c : Dev nD) (t : Fin cfg0.N) : ∃ xo, outs3 m c t.val t.isLt = step3 m c t xo := by
  obtain ⟨n, hn⟩ := t
  cases n with
  | zero => exact ⟨_, rfl⟩
  | succ n => exact ⟨_, rfl⟩
theorem outs3_A (c : Dev nD) (t : Fin cfg0.N) (hr : t.val < 128) (hq : t.val % 4 = 0) :
    outs3 m c t.val t.isLt = atA m c t hr hq := by
  obtain ⟨xo, e⟩ := outs3_any m c t
  exact e.trans ((dif_pos hr).trans (dif_pos hq))
theorem outs3_B (c : Dev nD) (t : Fin cfg0.N) (hr : t.val < 128) (hq : (1 ≤ t.val % 4 ∧ t.val % 4 ≤ 2)) :
    outs3 m c t.val t.isLt = atB m c t hr hq (outs3 m c (t.val - 1) (Nat.lt_of_le_of_lt (Nat.sub_le _ _) t.isLt)) := (outs3_step m c t (by omega)).trans ((dif_pos hr).trans ((dif_neg (by omega)).trans (dif_neg (by omega))))
theorem outs3_C (c : Dev nD) (t : Fin cfg0.N) (hr : t.val < 128) (hq : t.val % 4 = 3) :
    outs3 m c t.val t.isLt = atC m c t hr hq (outs3 m c (t.val - 1) (Nat.lt_of_le_of_lt (Nat.sub_le _ _) t.isLt)) := (outs3_step m c t (by omega)).trans ((dif_pos hr).trans ((dif_neg (by omega)).trans (dif_pos hq)))
theorem outs3_idle (c : Dev nD) (t : Fin cfg0.N) (h0 : t.val ≠ 0) (hr : 128 ≤ t.val) :
    outs3 m c t.val t.isLt = outs3 m c (t.val - 1) (Nat.lt_of_le_of_lt (Nat.sub_le _ _) t.isLt) :=
  (outs3_step m c t h0).trans (dif_neg (by omega))

/-- What output 1's buffer holds after a point, from what it held before: what the point stores, else the same. -/
def step4 (c : Dev nD) (t : Fin cfg0.N) (xo : Vec F S1024x1024 .f32) : Vec F S1024x1024 .f32 :=
  if hr : 128 ≤ t.val then
    if h0 : t.val % 4 = 0 then atD m c t hr h0
    else if h2 : t.val % 4 = 3 then atG m c t hr h2 xo
    else atE m c t hr (by omega) xo
  else xo

/-- What it holds after each point. -/
def outs4 (c : Dev nD) (n : ℕ) : n < cfg0.N → Vec F S1024x1024 .f32 :=
  Nat.rec (motive := fun n => n < cfg0.N → Vec F S1024x1024 .f32)
    (fun hn => step4 m c ⟨0, hn⟩ (VO0_4.read (Elt F) VO0_4.junk))
    (fun n ih hn => step4 m c ⟨n + 1, hn⟩ (ih (Nat.lt_of_succ_lt hn))) n

theorem outs4_step (c : Dev nD) (t : Fin cfg0.N) (h : t.val ≠ 0) :
    outs4 m c t.val t.isLt = step4 m c t (outs4 m c (t.val - 1) (Nat.lt_of_le_of_lt (Nat.sub_le _ _) t.isLt)) := by
  obtain ⟨n, hn⟩ := t
  cases n with
  | zero => exact absurd rfl h
  | succ n => rfl
theorem outs4_any (c : Dev nD) (t : Fin cfg0.N) : ∃ xo, outs4 m c t.val t.isLt = step4 m c t xo := by
  obtain ⟨n, hn⟩ := t
  cases n with
  | zero => exact ⟨_, rfl⟩
  | succ n => exact ⟨_, rfl⟩
theorem outs4_D (c : Dev nD) (t : Fin cfg0.N) (hr : 128 ≤ t.val) (hq : t.val % 4 = 0) :
    outs4 m c t.val t.isLt = atD m c t hr hq := by
  obtain ⟨xo, e⟩ := outs4_any m c t
  exact e.trans ((dif_pos hr).trans (dif_pos hq))
theorem outs4_E (c : Dev nD) (t : Fin cfg0.N) (hr : 128 ≤ t.val) (hq : (1 ≤ t.val % 4 ∧ t.val % 4 ≤ 2)) :
    outs4 m c t.val t.isLt = atE m c t hr hq (outs4 m c (t.val - 1) (Nat.lt_of_le_of_lt (Nat.sub_le _ _) t.isLt)) := (outs4_step m c t (by omega)).trans ((dif_pos hr).trans ((dif_neg (by omega)).trans (dif_neg (by omega))))
theorem outs4_G (c : Dev nD) (t : Fin cfg0.N) (hr : 128 ≤ t.val) (hq : t.val % 4 = 3) :
    outs4 m c t.val t.isLt = atG m c t hr hq (outs4 m c (t.val - 1) (Nat.lt_of_le_of_lt (Nat.sub_le _ _) t.isLt)) := (outs4_step m c t (by omega)).trans ((dif_pos hr).trans ((dif_neg (by omega)).trans (dif_pos hq)))
theorem outs4_idle (c : Dev nD) (t : Fin cfg0.N) (h0 : t.val ≠ 0) (hr : t.val < 128) :
    outs4 m c t.val t.isLt = outs4 m c (t.val - 1) (Nat.lt_of_le_of_lt (Nat.sub_le _ _) t.isLt) :=
  (outs4_step m c t h0).trans (dif_neg (by omega))

/-- The pipeline's data: the arrays as the region finds them; after a point each input's buffer at its block and the
    outputs' at `outs3`, `outs4`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outs3 m c t.val t.isLt
    | ⟨4, _⟩ => outs4 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outs3 m c t.val t.isLt := by dsimp only [dats]
theorem after0_4 (c : Dev nD) (t : Fin cfg0.N) : (dats m 0 c).after 4 t = outs4 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A point that does not store an output carries what its buffer held. -/
theorem hcarry3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t h0 hi _
  rw [idle_out3, decide_eq_true_eq] at hi
  rw [after0_3, after0_3]
  exact outs3_idle m c t h0 hi
theorem hcarry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t h0 hi _
  rw [idle_out4, decide_eq_true_eq] at hi
  rw [after0_4, after0_4]
  exact outs4_idle m c t h0 hi

theorem before3 (c : Dev nD) (t : Fin cfg0.N) (h : t.val % 4 ≠ 0 ∨ 128 ≤ t.val) (d) :
    (dats m 0 c).before 3 t d = outs3 m c (t.val - 1) (Nat.lt_of_le_of_lt (Nat.sub_le _ _) t.isLt) := by
  have hN : t.val < 384 := lt_of_lt_of_eq t.isLt (show cfg0.N = 384 from N_0)
  rw [Dat.before_out_traj _ 3 rfl (fun _ _ => rfl) (hcarry3 m c) t.val t rfl d,
    if_neg (by rw [fresh3_eq]; unfold fresh3; rw [decide_eq_true_eq]; omega)]
  dsimp only [dats]
theorem before4 (c : Dev nD) (t : Fin cfg0.N) (h : t.val % 4 ≠ 0) (h' : 128 ≤ t.val) (d) :
    (dats m 0 c).before 4 t d = outs4 m c (t.val - 1) (Nat.lt_of_le_of_lt (Nat.sub_le _ _) t.isLt) := by
  rw [Dat.before_out_traj _ 4 rfl (fun _ _ => rfl) (hcarry4 m c) t.val t rfl d,
    if_neg (by rw [fresh4_eq]; unfold fresh4; rw [decide_eq_true_eq]; omega)]
  dsimp only [dats]

/-- An output that a point does not store is left as the point found it. -/
theorem pass3 (c : Dev nD) (t : Fin cfg0.N) (h : 128 ≤ t.val) :
    iprop(∃ d, owns (c : Thread nD τ) (ms0_3 t) fullShare ((dats m 0 c).before 3 t d)) ⊢ ((dats m 0 c).leavesExact 3 t : sProp 𝕄) := by
  have hi : cfg0.idle 3 (cfg0.grid.coords t) = true := (idle_out3 t).trans (decide_eq_true h)
  cases hf : (cfg0.win 3).flush t with
  | false =>
    rw [Dat.leavesExact_idle _ 3 t hi hf]
  | true =>
    rw [show (dats m 0 c).leavesExact 3 t = owns (c : Thread nD τ) (ms0_3 t) fullShare ((dats m 0 c).after 3 t) from by
      unfold Dat.leavesExact; rw [hi, hf], after0_3, outs3_idle m c t (by omega) h]
    simp only [before3 m c t (.inr h)]
    iintro ⟨%d, H⟩; iexact H
theorem pass4 (c : Dev nD) (t : Fin cfg0.N) (h : t.val < 128) :
    iprop(∃ d, owns (c : Thread nD τ) (ms0_4 t) fullShare ((dats m 0 c).before 4 t d)) ⊢ ((dats m 0 c).leavesExact 4 t : sProp 𝕄) := by
  have hi : cfg0.idle 4 (cfg0.grid.coords t) = true := (idle_out4 t).trans (decide_eq_true h)
  rw [Dat.leavesExact_idle _ 4 t hi ((flush_out4 t).trans (decide_eq_false (by omega)))]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1200000 in
/-- The body at a point of the first quarter of output 0's rows. -/
theorem sound_A (c : Dev nD) (t : Fin cfg0.N) (hr : t.val < 128) (hq : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_in0 t], after0_0]
  rw [show (dats m 0 c).leavesExact 1 t = owns (c : Thread nD τ) (ms0_1 t) fullShare ((dats m 0 c).after 1 t) from by
    unfold Dat.leavesExact; rw [live_in1 t], after0_1]
  rw [show (dats m 0 c).leavesExact 2 t = owns (c : Thread nD τ) (ms0_2 t) fullShare ((dats m 0 c).after 2 t) from by
    unfold Dat.leavesExact; rw [live_in2 t], after0_2]
  rw [show (dats m 0 c).leavesExact 3 t = owns (c : Thread nD τ) (ms0_3 t) fullShare ((dats m 0 c).after 3 t) from by
    unfold Dat.leavesExact; rw [(idle_out3 t).trans (decide_eq_false (by omega))], after0_3]
  rw [outs3_A m c t hr hq]
  unfold atA out0_A_3
  iintro ⟨HΦ, Ho, ⟨%d0, H0⟩, ⟨%d1, H1⟩, ⟨%d2, H2⟩, ⟨%d3, H3⟩, Hp⟩
  iapply ((kernelRun0_A c (grid0.coords t) (ms0_0 t) (hs0_0 t) (ms0_1 t) (hs0_1 t) (ms0_2 t) (hs0_2 t) (ms0_3 t) (hs0_3 t) (ms0_4 t) (hs0_4 t) ((hrow1 t).mpr (by omega)) (fun h => absurd ((hrow5 t).mp h) (by omega)) ((hquarter2 t).mpr (by omega)) (fun h => absurd ((hquarter3 t).mp h) (by omega)) (fun h => absurd ((hquarter4 t).mp h) (by omega)) (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _)
  iapply (pass4 m c t hr); iexact Hp

set_option maxHeartbeats 1200000 in
/-- The body at a point of a middle quarter of output 0's rows. -/
theorem sound_B (c : Dev nD) (t : Fin cfg0.N) (hr : t.val < 128) (hq : (1 ≤ t.val % 4 ∧ t.val % 4 ≤ 2)) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_in0 t], after0_0]
  rw [show (dats m 0 c).leavesExact 1 t = owns (c : Thread nD τ) (ms0_1 t) fullShare ((dats m 0 c).after 1 t) from by
    unfold Dat.leavesExact; rw [live_in1 t], after0_1]
  rw [show (dats m 0 c).leavesExact 2 t = owns (c : Thread nD τ) (ms0_2 t) fullShare ((dats m 0 c).after 2 t) from by
    unfold Dat.leavesExact; rw [live_in2 t], after0_2]
  rw [show (dats m 0 c).leavesExact 3 t = owns (c : Thread nD τ) (ms0_3 t) fullShare ((dats m 0 c).after 3 t) from by
    unfold Dat.leavesExact; rw [(idle_out3 t).trans (decide_eq_false (by omega))], after0_3]
  rw [outs3_B m c t hr hq]
  simp only [before3 m c t (.inl (by omega))]
  unfold atB out0_B_3
  iintro ⟨HΦ, Ho, ⟨%d0, H0⟩, ⟨%d1, H1⟩, ⟨%d2, H2⟩, ⟨%d3, H3⟩, Hp⟩
  iapply ((kernelRun0_B c (grid0.coords t) (ms0_0 t) (hs0_0 t) (ms0_1 t) (hs0_1 t) (ms0_2 t) (hs0_2 t) (ms0_3 t) (hs0_3 t) (ms0_4 t) (hs0_4 t) ((hrow1 t).mpr (by omega)) (fun h => absurd ((hrow5 t).mp h) (by omega)) (fun h => absurd ((hquarter2 t).mp h) (by omega)) ((hquarter3 t).mpr (by omega)) (fun h => absurd ((hquarter4 t).mp h) (by omega)) (iblk m c 0 t) (iblk m c 1 t) (iblk m c 2 t) _).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_B_3 c _ _ _ _ _ _ _ _ _ _ _ _ _ _ _ _ _ _ _ _)
  iapply (pass4 m c t hr); iexact Hp

set_option maxHeartbeats 1200000 in
/-- The body at a point of the last quarter of output 0's rows. -/
theorem sound_C (c : Dev nD) (t : Fin cfg0.N) (hr : t.val < 128) (hq : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_in0 t], after0_0]
  rw [show (dats m 0 c).leavesExact 1 t = owns (c : Thread nD τ) (ms0_1 t) fullShare ((dats m 0 c).after 1 t) from by
    unfold Dat.leavesExact; rw [live_in1 t], after0_1]
  rw [show (dats m 0 c).leavesExact 2 t = owns (c : Thread nD τ) (ms0_2 t) fullShare ((dats m 0 c).after 2 t) from by
    unfold Dat.leavesExact; rw [live_in2 t], after0_2]
  rw [show (dats m 0 c).leavesExact 3 t = owns (c : Thread nD τ) (ms0_3 t) fullShare ((dats m 0 c).after 3 t) from by
    unfold Dat.leavesExact; rw [(idle_out3 t).trans (decide_eq_false (by omega))], after0_3]
  rw [outs3_C m c t hr hq]
  simp only [before3 m c t (.inl (by omega))]
  unfold atC out0_C_3
  iintro ⟨HΦ, Ho, ⟨%d0, H0⟩, ⟨%d1, H1⟩, ⟨%d2, H2⟩, ⟨%d3, H3⟩, Hp⟩
  iapply ((kernelRun0_C c (grid0.coords t) (ms0_0 t) (hs0_0 t) (ms0_1 t) (hs0_1 t) (ms0_2 t) (hs0_2 t) (ms0_3 t) (hs0_3 t) (ms0_4 t) (hs0_4 t) ((hrow1 t).mpr (by omega)) (fun h => absurd ((hrow5 t).mp h) (by omega)) (fun h => absurd ((hquarter2 t).mp h) (by omega)) (fun h => absurd ((hquarter3 t).mp h) (by omega)) ((hquarter4 t).mpr (by omega)) (iblk m c 0 t) (iblk m c 1 t) (iblk m c 2 t) _).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_C_3 c _ _ _ _ _ _ _ _ _ _ _ _ _ _ _ _ _ _ _ _)
  iapply (pass4 m c t hr); iexact Hp

set_option maxHeartbeats 1200000 in
/-- The body at a point of the first quarter of output 1's rows. -/
theorem sound_D (c : Dev nD) (t : Fin cfg0.N) (hr : 128 ≤ t.val) (hq : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_in0 t], after0_0]
  rw [show (dats m 0 c).leavesExact 1 t = owns (c : Thread nD τ) (ms0_1 t) fullShare ((dats m 0 c).after 1 t) from by
    unfold Dat.leavesExact; rw [live_in1 t], after0_1]
  rw [show (dats m 0 c).leavesExact 2 t = owns (c : Thread nD τ) (ms0_2 t) fullShare ((dats m 0 c).after 2 t) from by
    unfold Dat.leavesExact; rw [live_in2 t], after0_2]
  rw [show (dats m 0 c).leavesExact 4 t = owns (c : Thread nD τ) (ms0_4 t) fullShare ((dats m 0 c).after 4 t) from by
    unfold Dat.leavesExact; rw [(idle_out4 t).trans (decide_eq_false (by omega))], after0_4]
  rw [outs4_D m c t hr hq]
  unfold atD out0_D_4
  iintro ⟨HΦ, Ho, ⟨%d0, H0⟩, ⟨%d1, H1⟩, ⟨%d2, H2⟩, Hp, ⟨%d3, H3⟩⟩
  iapply ((kernelRun0_D c (grid0.coords t) (ms0_0 t) (hs0_0 t) (ms0_1 t) (hs0_1 t) (ms0_2 t) (hs0_2 t) (ms0_3 t) (hs0_3 t) (ms0_4 t) (hs0_4 t) ((hrow5 t).mpr (by omega)) (fun h => absurd ((hrow1 t).mp h) (by omega)) ((hquarter6 t).mpr (by omega)) (fun h => absurd ((hquarter7 t).mp h) (by omega)) (fun h => absurd ((hquarter8 t).mp h) (by omega)) (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  isplitl [Hp]
  · iapply (pass3 m c t hr); iexact Hp
  unfold owns; iexists _; isplitr
  swap; · iexact H3
  ipureintro; exact View.read_writes_of_cover _ _ _ _ _ (cover0_D_4 c _ _ _ _ _ _ _ _ _ _ _ _ _ _ _ _ _ _ _)

set_option maxHeartbeats 1200000 in
/-- The body at a point of a middle quarter of output 1's rows. -/
theorem sound_E (c : Dev nD) (t : Fin cfg0.N) (hr : 128 ≤ t.val) (hq : (1 ≤ t.val % 4 ∧ t.val % 4 ≤ 2)) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_in0 t], after0_0]
  rw [show (dats m 0 c).leavesExact 1 t = owns (c : Thread nD τ) (ms0_1 t) fullShare ((dats m 0 c).after 1 t) from by
    unfold Dat.leavesExact; rw [live_in1 t], after0_1]
  rw [show (dats m 0 c).leavesExact 2 t = owns (c : Thread nD τ) (ms0_2 t) fullShare ((dats m 0 c).after 2 t) from by
    unfold Dat.leavesExact; rw [live_in2 t], after0_2]
  rw [show (dats m 0 c).leavesExact 4 t = owns (c : Thread nD τ) (ms0_4 t) fullShare ((dats m 0 c).after 4 t) from by
    unfold Dat.leavesExact; rw [(idle_out4 t).trans (decide_eq_false (by omega))], after0_4]
  rw [outs4_E m c t hr hq]
  simp only [before4 m c t (by omega) hr]
  unfold atE out0_E_4
  iintro ⟨HΦ, Ho, ⟨%d0, H0⟩, ⟨%d1, H1⟩, ⟨%d2, H2⟩, Hp, ⟨%d3, H3⟩⟩
  iapply ((kernelRun0_E c (grid0.coords t) (ms0_0 t) (hs0_0 t) (ms0_1 t) (hs0_1 t) (ms0_2 t) (hs0_2 t) (ms0_3 t) (hs0_3 t) (ms0_4 t) (hs0_4 t) ((hrow5 t).mpr (by omega)) (fun h => absurd ((hrow1 t).mp h) (by omega)) (fun h => absurd ((hquarter6 t).mp h) (by omega)) ((hquarter7 t).mpr (by omega)) (fun h => absurd ((hquarter8 t).mp h) (by omega)) (iblk m c 0 t) (iblk m c 1 t) (iblk m c 2 t) _).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  isplitl [Hp]
  · iapply (pass3 m c t hr); iexact Hp
  unfold owns; iexists _; isplitr
  swap; · iexact H3
  ipureintro; exact View.read_writes_of_cover _ _ _ _ _ (cover0_E_4 c _ _ _ _ _ _ _ _ _ _ _ _ _ _ _ _ _ _ _ _)

set_option maxHeartbeats 1200000 in
/-- The body at a point of the last quarter of output 1's rows. -/
theorem sound_G (c : Dev nD) (t : Fin cfg0.N) (hr : 128 ≤ t.val) (hq : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_in0 t], after0_0]
  rw [show (dats m 0 c).leavesExact 1 t = owns (c : Thread nD τ) (ms0_1 t) fullShare ((dats m 0 c).after 1 t) from by
    unfold Dat.leavesExact; rw [live_in1 t], after0_1]
  rw [show (dats m 0 c).leavesExact 2 t = owns (c : Thread nD τ) (ms0_2 t) fullShare ((dats m 0 c).after 2 t) from by
    unfold Dat.leavesExact; rw [live_in2 t], after0_2]
  rw [show (dats m 0 c).leavesExact 4 t = owns (c : Thread nD τ) (ms0_4 t) fullShare ((dats m 0 c).after 4 t) from by
    unfold Dat.leavesExact; rw [(idle_out4 t).trans (decide_eq_false (by omega))], after0_4]
  rw [outs4_G m c t hr hq]
  simp only [before4 m c t (by omega) hr]
  unfold atG out0_G_4
  iintro ⟨HΦ, Ho, ⟨%d0, H0⟩, ⟨%d1, H1⟩, ⟨%d2, H2⟩, Hp, ⟨%d3, H3⟩⟩
  iapply ((kernelRun0_G c (grid0.coords t) (ms0_0 t) (hs0_0 t) (ms0_1 t) (hs0_1 t) (ms0_2 t) (hs0_2 t) (ms0_3 t) (hs0_3 t) (ms0_4 t) (hs0_4 t) ((hrow5 t).mpr (by omega)) (fun h => absurd ((hrow1 t).mp h) (by omega)) (fun h => absurd ((hquarter6 t).mp h) (by omega)) (fun h => absurd ((hquarter7 t).mp h) (by omega)) ((hquarter8 t).mpr (by omega)) (iblk m c 0 t) (iblk m c 1 t) (iblk m c 2 t) _).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  isplitl [Hp]
  · iapply (pass3 m c t hr); iexact Hp
  unfold owns; iexists _; isplitr
  swap; · iexact H3
  ipureintro; exact View.read_writes_of_cover _ _ _ _ _ (cover0_G_4 c _ _ _ _ _ _ _ _ _ _ _ _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  by_cases hr : t.val < 128
  · by_cases h0 : t.val % 4 = 0
    · exact sound_A m c t hr h0
    · by_cases h2 : t.val % 4 = 3
      · exact sound_C m c t hr h2
      · exact sound_B m c t hr (by omega)
  · by_cases h0 : t.val % 4 = 0
    · exact sound_D m c t (by omega) h0
    · by_cases h2 : t.val % 4 = 3
      · exact sound_G m c t (by omega) h2
      · exact sound_E m c t (by omega) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every final state has the pipeline's arrays at what the data says, every other buffer as it was, and every
    semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.DownTwoIdeal.Gen

end
-- ==== Proof.MergeTie.lean ====
module

public import proofs.«01_k».proof.Proof.MergeValue
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.KernelIdeal.Merge

open Cert.ReferenceIdeal Cert.ReferenceIdeal.Value Cert.ReferenceIdeal.Read

/-- The reference's composed term is the merge of the same arrays. -/
theorem reference_eq (x0 : (⟨S24576x4096, .bf16⟩ : BufTy).Contents (Elt Ideal)) (x1 : (⟨S24576x2048, .bf16⟩ : BufTy).Contents (Elt Ideal))
    (x2 : (⟨S24576x768, .bf16⟩ : BufTy).Contents (Elt Ideal)) (x3 : (⟨S24576x2048, .bf16⟩ : BufTy).Contents (Elt Ideal))
    (x4 : (⟨S2x4096x26944, .f32⟩ : BufTy).Contents (Elt Ideal)) (x5 : (⟨S2x2048x4096, .f32⟩ : BufTy).Contents (Elt Ideal))
    (x6 : (⟨S2x768x4096, .f32⟩ : BufTy).Contents (Elt Ideal)) (x7 : (⟨S2x2048x4096, .f32⟩ : BufTy).Contents (Elt Ideal)) :
    (val_main_v31 (F := Ideal) x0 x1 x2 x3 x4 x5 x6 x7 : S24576x4096.Idx → EReal)
      = mergeOf x0 x1 x2 x3 (gateCols x4) (firstA x5) (firstB x6) (firstA x7) := by
  funext i
  rw [← val_main_v31_eq]
  unfold mergeOf gateCols firstA firstB
  idx_vars i
  pointwise []
  rfl

end Cert.KernelIdeal.Merge

end
-- ==== Proof.UpValue.lean ====
module

public import proofs.«01_k».proof.Proof.Gen.UpIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpIdeal.Ffn

open Cert.UpIdeal Cert.UpIdeal.Gen

variable (V : (c : Dev nD) → (b : Ref sig .tc) → Buf (Elt Ideal) ((c : Thread nD τ).loc b))

theorem index0 : ∀ t : Fin grid0.N, win0_0.index t = ![t.val, 0] ∧ win0_1.index t = ![0, 0]
    ∧ win0_2.index t = ![t.val, 0] := by decide +kernel

def normed (x : S24576x4096.Idx → EReal) (g : S1x4096.Idx → EReal) : S24576x4096.Idx → EReal := fun i =>
  x i * Ideal.rsqrt (Ideal.div (∑ k : Fin 4096, x (ix2 (i 0) k) * x (ix2 (i 0) k)) (Ideal.ofBits FTy.f32 1166016512#32)
    + Ideal.ofBits FTy.f32 897988541#32) * g (ix2 (0 : Fin 1) (i 1))

theorem normed_eq (c : Dev nD) : (dat0 V c).arrAt 2 cfg0.N = normed (V c main_arg0) (V c main_v2) := by
  refine (dat0 V c).arrAt_eq_of_covers 2 _ (by decide +kernel) fun t hf y => ?_
  blk_simp
  rw [after0_2]
  frame_out
  obtain ⟨e0, e1, e2⟩ := index0 t
  unfold normed
  idx_vars y
  pointwise [k0_pay1]
  blk_point [iblk0, e0, e1, e2]

theorem index1 : ∀ t : Fin grid1.N, win1_0.index t = ![t.val / 22, 0] ∧ win1_1.index t = ![0, t.val % 22]
    ∧ win1_2.index t = ![0, t.val % 22] ∧ win1_3.index t = ![t.val / 22, t.val % 22] := by decide +kernel

def upOf (h : S24576x4096.Idx → EReal) (wg wu : S4096x11264.Idx → EReal) : S24576x11264.Idx → EReal := fun i =>
  (∑ k : Fin 4096, h (ix2 (i 0) k) * wg (ix2 k (i 1)))
    * Ideal.logistic (∑ k : Fin 4096, h (ix2 (i 0) k) * wg (ix2 k (i 1)))
    * (∑ k : Fin 4096, h (ix2 (i 0) k) * wu (ix2 k (i 1)))

theorem up_eq (c : Dev nD) : (dat1 V c).arrAt 3 cfg1.N = upOf (V c main_v3) (V c main_v7) (V c main_v11) := by
  refine (dat1 V c).arrAt_eq_of_covers 3 _ (by decide +kernel) fun t hf y => ?_
  blk_simp
  rw [after1_3]
  frame_out
  obtain ⟨e0, e1, e2, e3⟩ := index1 t
  unfold upOf
  idx_vars y
  pointwise [k1_pay1]
  blk_point [iblk1, e0, e1, e2, e3]

/-- The integer zero the padding starts from, as a float. -/
theorem zero_entry : (FloatOps.sitofp (F := Ideal) .f32 (0#32) : EReal) = 0 := by
  show (((0#32 : BitVec 32).toInt : ℝ) : EReal) = 0
  simp

/-- The gain of the layer, as a row. -/
def gain (g : S2x4096.Idx → EReal) : S1x4096.Idx → EReal := fun i => g (ix2 (0 : Fin 2) (i 1))

/-- The layer's weights with zero columns after the last. -/
def padCols (w : S2x4096x11008.Idx → EReal) : S4096x11264.Idx → EReal := fun i =>
  if h : (i 1).val < 11008 then w (ix3 (0 : Fin 2) (i 0) (⟨(i 1).val, h⟩ : Fin 11008)) else 0

end Cert.UpIdeal.Ffn

end
-- ==== Proof.UpRun.lean ====
module

public import proofs.«01_k».proof.Proof.UpValue

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.UpIdeal.Ffn

open Cert.UpIdeal Cert.UpIdeal.Gen

local notation "𝕄" => MT nD τ sig Unit (Elt Ideal) ℕ (UR sig nD τ) ℕ

variable (m : (ℓ : Loc nD τ sig) → Buf (Elt Ideal) ℓ) (ρ : Dev nD → PrngReg)

/-- What the program computes from its arguments. -/
def result (c : Dev nD) : Buf (Elt Ideal) ((c : Thread nD τ).loc main_v12) :=
  upOf (normed (m ((c : Thread nD τ).loc main_arg0)) (gain (m ((c : Thread nD τ).loc main_arg1))))
    (padCols (m ((c : Thread nD τ).loc main_arg2))) (padCols (m ((c : Thread nD τ).loc main_arg3)))

theorem gain_entry (c : Dev nD) : V1 m ρ c main_v2 = gain (m ((c : Thread nD τ).loc main_arg1)) := by
  have e : V1 m ρ c main_v2 = shapeCast S1x4096 (shapeCast S4096 (extractStridedSlice S1x4096 ![0, 0]
      (m ((c : Thread nD τ).loc main_arg1)) slices_S2x4096_S1x4096_0_0) shapeCasts_S1x4096_S4096) shapeCasts_S4096_S1x4096 := by
    show StableHlo.after hostOps0 (W0 m ρ c) (Proc.devRef .tc main_v2) = _
    after_results_simp <;> rfl
  rw [e]
  funext i
  unfold gain
  idx_vars i
  pointwise []

theorem hidden_entry (c : Dev nD) : V7 m ρ c main_v3
    = normed (m ((c : Thread nD τ).loc main_arg0)) (gain (m ((c : Thread nD τ).loc main_arg1))) := by
  refine (W7_of m ρ c main_v3 (by decide)).trans <| (W6_of m ρ c main_v3 (by decide)).trans <|
    (W5_of m ρ c main_v3 (by decide)).trans <| (W4_of m ρ c main_v3 (by decide)).trans <|
    (W3_of m ρ c main_v3 (by decide)).trans <| (W2_arr m ρ c 2).trans ?_
  rw [normed_eq, gain_entry, show V1 m ρ c main_arg0 = m ((c : Thread nD τ).loc main_arg0) from W1_args m ρ c main_arg0 (by simp)]

theorem wg_entry (c : Dev nD) : V7 m ρ c main_v7 = padCols (m ((c : Thread nD τ).loc main_arg2)) := by
  have e : V7 m ρ c main_v7 = truncf (F := Ideal) .bf16 (pad S4096x11264 ![0, 0] ![0, 256] ![0, 0]
      (shapeCast S4096x11008 (extractStridedSlice S1x4096x11008 ![0, 0, 0] (W2 m ρ c (Proc.devRef .tc main_arg2))
        slices_S2x4096x11008_S1x4096x11008_0_0_0) shapeCasts_S1x4096x11008_S4096x11008)
      (sitofp .f32 (constantI S_ 32 0#32)) pads_S4096x11008_S4096x11264_000_02560 h_S_) bitsLt_bf16_f32 := by
    refine (W7_of m ρ c main_v7 (by decide)).trans <| (W6_of m ρ c main_v7 (by decide)).trans ?_
    show StableHlo.after hostOps1_2 (W4 m ρ c) (Proc.devRef .tc main_v7) = _
    after_results_simp <;> rfl
  rw [e, show W2 m ρ c (Proc.devRef .tc main_arg2) = m ((c : Thread nD τ).loc main_arg2) from W2_args m ρ c main_arg2 (by simp)]
  funext i
  unfold padCols
  idx_vars i
  pointwise []
  by_cases h : i1.val < 11008
  · simp only [h, dif_pos]
  · simp only [h, dif_neg, not_false_eq_true]
    exact zero_entry

theorem wu_entry (c : Dev nD) : V7 m ρ c main_v11 = padCols (m ((c : Thread nD τ).loc main_arg3)) := by
  have e : V7 m ρ c main_v11 = truncf (F := Ideal) .bf16 (pad S4096x11264 ![0, 0] ![0, 256] ![0, 0]
      (shapeCast S4096x11008 (extractStridedSlice S1x4096x11008 ![0, 0, 0] (W4 m ρ c (Proc.devRef .tc main_arg3))
        slices_S2x4096x11008_S1x4096x11008_0_0_0) shapeCasts_S1x4096x11008_S4096x11008)
      (sitofp .f32 (constantI S_ 32 0#32)) pads_S4096x11008_S4096x11264_000_02560 h_S_) bitsLt_bf16_f32 := by
    show StableHlo.after hostOps1_4 (W6 m ρ c) (Proc.devRef .tc main_v11) = _
    after_results_simp <;> rfl
  rw [e, show W4 m ρ c (Proc.devRef .tc main_arg3) = m ((c : Thread nD τ).loc main_arg3) from W4_args m ρ c main_arg3 (by simp)]
  funext i
  unfold padCols
  idx_vars i
  pointwise []
  by_cases h : i1.val < 11008
  · simp only [h, dif_pos]
  · simp only [h, dif_neg, not_false_eq_true]
    exact zero_entry

theorem result_eq (c : Dev nD) : W8 m ρ c (Proc.devRef .tc main_v12) = result m c := by
  refine (W8_arr m ρ c 3).trans ?_
  rw [up_eq, hidden_entry, wg_entry, wu_entry]
  rfl

set_option backward.isDefEq.respectTransparency.types false in
/-- From any memory with zero counters every weakly fair execution of the program terminates with the gated
    up-projection of the normed rows in its result array, its arguments unchanged and every semaphore counter at zero. -/
theorem run : θ_run defs (onTc (τ := τ) (main (F := Ideal))) ⟨m, fun _ => 0, ρ⟩ (fun r => (∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨(h c _ (mem_uc main_v12 (by decide))).trans (result_eq m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩), funext fun g => hz g (.inr (no_unscoped g.2))⟩)

end Cert.UpIdeal.Ffn

end
-- ==== Proof.UpTie.lean ====
module

public import proofs.«01_k».proof.Proof.UpValue
public import proofs.«01_k».proof.Proof.Gen.UpReferenceIdeal.Run
public import proofs.«01_k».proof.Proof.Gen.UpReferenceIdeal.Read

@[expose] public section

set_option maxRecDepth 16384

noncomputable section

open Idealize.ShloMosaic Idealize.ShloMosaic.TcCoe Idealize.SL.Sem

namespace Cert.UpIdeal.Ffn

open Cert.UpReferenceIdeal Cert.UpReferenceIdeal.Value Cert.UpReferenceIdeal.Read

/-- The reference's composed term is the gated up-projection of the same arrays. -/
theorem reference_eq (x0 : (⟨S24576x4096, .f32⟩ : BufTy).Contents (Elt Ideal)) (x1 : (⟨S2x4096, .f32⟩ : BufTy).Contents (Elt Ideal))
    (x2 : (⟨S2x4096x11008, .f32⟩ : BufTy).Contents (Elt Ideal)) (x3 : (⟨S2x4096x11008, .f32⟩ : BufTy).Contents (Elt Ideal)) :
    (val_main_v24 (F := Ideal) x0 x1 x2 x3 : S24576x11264.Idx → EReal)
      = upOf (normed x0 (gain x1)) (padCols x2) (padCols x3) := by
  funext i
  rw [← val_main_v24_eq]
  unfold upOf normed gain padCols
  idx_vars i
  pointwise []
  by_cases h : i1.val < 11008
  · simp only [h, dif_pos]
    rfl
  · simp only [h, dif_neg, not_false_eq_true, mul_zero, Finset.sum_const_zero]
    exact zero_entry

end Cert.UpIdeal.Ffn

end
-- ==== Proof.DownValue.lean ====
module

public import proofs.«01_k».proof.Proof.Gen.DownIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Ffn

open Cert.DownIdeal Cert.DownIdeal.Gen

variable (m : (ℓ : Loc nD τ sig) → Buf (Elt Ideal) ℓ)

theorem index0 : ∀ t : Fin grid0.N, win0_0.index t = ![t.val / 16, t.val % 4] ∧ win0_1.index t = ![t.val % 4, t.val / 4 % 4]
    ∧ win0_2.index t = ![t.val / 16, t.val / 4 % 4] ∧ win0_3.index t = ![t.val / 16, t.val / 4 % 4] := by decide +kernel

/-- The product of one quarter of the contracted axis. -/
def quarter (a : S24576x11264.Idx → EReal) (w : S11264x4096.Idx → EReal) (q : ℕ) (hq : q < 4) (r : Fin 24576) (s : Fin 4096) : EReal :=
  ∑ k : Fin 2816, a (ix2 r (⟨2816 * q + k.val, by omega⟩ : Fin 11264)) * w (ix2 (⟨2816 * q + k.val, by omega⟩ : Fin 11264) s)

theorem quarter_congr (a : S24576x11264.Idx → EReal) (w : S11264x4096.Idx → EReal) {q q' : ℕ} (hq : q < 4) (hq' : q' < 4)
    {r r' : Fin 24576} {s s' : Fin 4096} (e : q = q') (er : r.val = r'.val) (es : s.val = s'.val) :
    quarter a w q hq r s = quarter a w q' hq' r' s' := by
  subst e
  obtain rfl := Fin.ext er
  obtain rfl := Fin.ext es
  rfl

/-- What one point's product is. -/
theorem part_eq (c : Dev nD) (t : Fin cfg0.N) (y0 y1 : Fin 1024) :
    k0_pay1 (F := Ideal) (iblk m c 0 t) (iblk m c 1 t) (ix2 y0 y1)
      = quarter (V m c main_arg1) (V m c main_v3) (t.val % 4) (by omega)
          (⟨1024 * (t.val / 16) + y0.val, by have := lt_of_lt_of_eq t.isLt (show cfg0.N = 384 from N_0); omega⟩ : Fin 24576)
          (⟨1024 * (t.val / 4 % 4) + y1.val, by omega⟩ : Fin 4096) := by
  obtain ⟨e0, e1, e2, e3⟩ := index0 t
  unfold quarter
  pointwise [k0_pay1]
  blk_point [iblk, e0, e1, e2, e3]

theorem first_eq (c : Dev nD) (t : Fin cfg0.N) (h : t.val % 4 = 0) (y : S1024x1024.Idx) :
    outsAt0 m c t.val t.isLt y = k0_pay1 (F := Ideal) (iblk m c 0 t) (iblk m c 1 t) y := by
  rw [outsAt0_A m c t h (by omega) (by omega)]
  frame_out

theorem middle_eq (c : Dev nD) (t : Fin cfg0.N) (h : 1 ≤ t.val % 4 ∧ t.val % 4 ≤ 2) (y : S1024x1024.Idx) :
    outsAt0 m c t.val t.isLt y = outsAt0 m c (t.val - 1) (Nat.lt_of_le_of_lt (Nat.sub_le _ _) t.isLt) y
      + k0_pay1 (F := Ideal) (iblk m c 0 t) (iblk m c 1 t) y := by
  rw [outsAt0_B m c t (by omega) h (by omega)]
  frame_out
  idx_vars y
  pointwise [k0_pay1, k0_pay2]

/-- The residual's block. -/
def resid (c : Dev nD) (t : Fin cfg0.N) : S1024x1024.Idx → EReal := iblk m c 2 t

theorem last_eq (c : Dev nD) (t : Fin cfg0.N) (h : t.val % 4 = 3) (y : S1024x1024.Idx) :
    outsAt0 m c t.val t.isLt y = resid m c t y + Ideal.ofBits FTy.f32 0x3F000000#32
      * (outsAt0 m c (t.val - 1) (Nat.lt_of_le_of_lt (Nat.sub_le _ _) t.isLt) y
        + k0_pay1 (F := Ideal) (iblk m c 0 t) (iblk m c 1 t) y) := by
  rw [outsAt0_C m c t (by omega) (by omega) h]
  frame_out
  unfold resid
  idx_vars y
  pointwise [k0_pay1, k0_pay3]

def downOf (x : S24576x4096.Idx → EReal) (a : S24576x11264.Idx → EReal) (w : S11264x4096.Idx → EReal) : S24576x4096.Idx → EReal := fun i =>
  x i + Ideal.ofBits FTy.f32 0x3F000000#32 * (((quarter a w 0 (by omega) (i 0) (i 1) + quarter a w 1 (by omega) (i 0) (i 1))
    + quarter a w 2 (by omega) (i 0) (i 1)) + quarter a w 3 (by omega) (i 0) (i 1))

theorem down_eq (c : Dev nD) : (dats m 0 c).arrAt 3 cfg0.N = downOf (V m c main_arg0) (V m c main_arg1) (V m c main_v3) := by
  refine (dats m 0 c).arrAt_eq_of_covers 3 _ (by decide +kernel) fun t hf y => ?_
  have h3 : t.val % 4 = 3 := (flush0_3 t).mp hf
  blk_simp
  rw [after0_3]
  have hN : t.val < 384 := lt_of_lt_of_eq t.isLt (show cfg0.N = 384 from N_0)
  have s3 := last_eq m c t h3 y
  have s2 := middle_eq m c ⟨t.val - 1, Nat.lt_of_le_of_lt (Nat.sub_le _ _) t.isLt⟩ (by dsimp only; omega) y
  have s1 := middle_eq m c ⟨t.val - 1 - 1, lt_of_lt_of_eq (show t.val - 1 - 1 < 384 by omega) (show cfg0.N = 384 from N_0).symm⟩ (by dsimp only; omega) y
  have s0 := first_eq m c ⟨t.val - 1 - 1 - 1, lt_of_lt_of_eq (show t.val - 1 - 1 - 1 < 384 by omega) (show cfg0.N = 384 from N_0).symm⟩ (by dsimp only; omega) y
  dsimp only at s2 s1 s0
  rw [s3, s2, s1, s0]
  obtain ⟨e0, e1, e2, e3⟩ := index0 t
  unfold downOf
  idx_vars y
  rw [part_eq, part_eq, part_eq, part_eq]
  have he : (win0_3.blk t).view.emb (ix2 y0 y1) = ix2 (⟨1024 * (t.val / 16) + y0.val, by omega⟩ : Fin 24576)
      (⟨1024 * (t.val / 4 % 4) + y1.val, by omega⟩ : Fin 4096) := by
    blk_ext [e3]
  have hx : resid m c t (ix2 y0 y1) = V m c main_arg0 (ix2 (⟨1024 * (t.val / 16) + y0.val, by omega⟩ : Fin 24576)
      (⟨1024 * (t.val / 4 % 4) + y1.val, by omega⟩ : Fin 4096)) := by
    unfold resid
    blk_point [iblk, e2]
  rw [he, hx]
  refine congrArg₂ (· + ·) rfl (congrArg₂ (· * ·) rfl (congrArg₂ (· + ·) (congrArg₂ (· + ·) (congrArg₂ (· + ·) ?_ ?_) ?_) ?_))
  all_goals
    refine quarter_congr _ _ _ _ ?_ ?_ ?_
    all_goals first | omega | (dsimp only; omega) | (show _ = _ + _; dsimp only <;> omega)

end Cert.DownIdeal.Ffn

end
-- ==== Proof.DownTie.lean ====
module

public import proofs.«01_k».proof.Proof.DownValue
public import proofs.«01_k».proof.Proof.Gen.DownReferenceIdeal.Run
public import proofs.«01_k».proof.Proof.Gen.DownReferenceIdeal.Read

@[expose] public section

set_option maxRecDepth 16384

noncomputable section

open Idealize.ShloMosaic Idealize.ShloMosaic.TcCoe Idealize.SL.Sem

namespace Cert.DownIdeal.Ffn

/-- The integer zero the padding starts from, as a float. -/
theorem zero_entry : (FloatOps.sitofp (F := Ideal) .f32 (0#32) : EReal) = 0 := by
  show (((0#32 : BitVec 32).toInt : ℝ) : EReal) = 0
  simp

section
open Cert.DownIdeal Cert.DownIdeal.Gen

/-- The layer's weights with zero rows after the last. -/
def padRows (w : S2x11008x4096.Idx → EReal) : S11264x4096.Idx → EReal := fun i =>
  if h : (i 0).val < 11008 then w (ix3 (0 : Fin 2) (⟨(i 0).val, h⟩ : Fin 11008) (i 1)) else 0

variable (m : (ℓ : Loc nD τ sig) → Buf (Elt Ideal) ℓ) (ρ : Dev nD → PrngReg)

theorem wd_entry (c : Dev nD) : V m c main_v3 = padRows (m ((c : Thread nD τ).loc main_arg2)) := by
  have e : V m c main_v3 = truncf (F := Ideal) .bf16 (pad S11264x4096 ![0, 0] ![256, 0] ![0, 0]
      (shapeCast S11008x4096 (extractStridedSlice S1x11008x4096 ![0, 0, 0] (m ((c : Thread nD τ).loc main_arg2))
        slices_S2x11008x4096_S1x11008x4096_0_0_0) shapeCasts_S1x11008x4096_S11008x4096)
      (sitofp .f32 (constantI S_ 32 0#32)) pads_S11008x4096_S11264x4096_02560_000 h_S_) bitsLt_bf16_f32 := by
    show StableHlo.after (List.flatten [hostOps0, hostOps0_1, hostOps0_2]) _ (Proc.devRef .tc main_v3) = _
    simp only [hostOps0, hostOps0_1, hostOps0_2, List.flatten_cons, List.flatten_nil, List.append_nil, List.cons_append, List.nil_append]
    after_results_simp <;> rfl
  rw [e]
  funext i
  unfold padRows
  idx_vars i
  pointwise []
  by_cases h : i0.val < 11008
  · rw [dif_pos h, dif_pos h]
  · simp only [h, dif_neg, not_false_eq_true]
    exact zero_entry

/-- What the program computes from its arguments. -/
def result (c : Dev nD) : Buf (Elt Ideal) ((c : Thread nD τ).loc main_v4) :=
  downOf (m ((c : Thread nD τ).loc main_arg0)) (m ((c : Thread nD τ).loc main_arg1)) (padRows (m ((c : Thread nD τ).loc main_arg2)))

theorem result_eq (c : Dev nD) : (dats m 0 c).arrAt 3 cfg0.N = result m c := by
  rw [down_eq, wd_entry, show V m c main_arg0 = m ((c : Thread nD τ).loc main_arg0) from V_main_arg0 m c,
    show V m c main_arg1 = m ((c : Thread nD τ).loc main_arg1) from V_main_arg1 m c]
  rfl

/-- The four quarters are the whole contracted axis, and its padded end adds nothing. -/
theorem quarters_eq (a : S24576x11264.Idx → EReal) (w : S2x11008x4096.Idx → EReal) (r : Fin 24576) (s : Fin 4096) :
    ((quarter a (padRows w) 0 (by omega) r s + quarter a (padRows w) 1 (by omega) r s) + quarter a (padRows w) 2 (by omega) r s)
        + quarter a (padRows w) 3 (by omega) r s
      = ∑ k : Fin 11008, a (ix2 r (⟨k.val, by omega⟩ : Fin 11264)) * w (ix3 (0 : Fin 2) k s) := by
  have hs : ∀ f : Fin 11264 → EReal, ((∑ k : Fin 2816, f ⟨2816 * 0 + k.val, by omega⟩) + (∑ k : Fin 2816, f ⟨2816 * 1 + k.val, by omega⟩)
      + (∑ k : Fin 2816, f ⟨2816 * 2 + k.val, by omega⟩)) + (∑ k : Fin 2816, f ⟨2816 * 3 + k.val, by omega⟩)
      = ∑ k : Fin 11264, f k := by
    intro f
    have e3 := Fin.sum_univ_add (a := 8448) (b := 2816) f
    have e2 := Fin.sum_univ_add (a := 5632) (b := 2816) fun k => f (Fin.castAdd 2816 k)
    have e1 := Fin.sum_univ_add (a := 2816) (b := 2816) fun k => f (Fin.castAdd 2816 (Fin.castAdd 2816 k))
    refine Eq.trans ?_ (e3.trans (congrArg (· + _) (e2.trans (congrArg (· + _) e1)))).symm
    refine congrArg₂ (· + ·) (congrArg₂ (· + ·) (congrArg₂ (· + ·) ?_ ?_) ?_) ?_ <;>
      exact Finset.sum_congr rfl fun k _ => congrArg f (Fin.ext (by simp [Nat.add_comm]))
  refine (hs fun k => a (ix2 r k) * padRows w (ix2 k s)).trans ?_
  have e := Fin.sum_univ_add (a := 11008) (b := 256) fun k : Fin 11264 => a (ix2 r k) * padRows w (ix2 k s)
  refine e.trans ?_
  rw [Finset.sum_eq_zero (s := Finset.univ) (f := fun k : Fin 256 => a (ix2 r (Fin.natAdd 11008 k)) * padRows w (ix2 (Fin.natAdd 11008 k) s)), add_zero]
  · refine Finset.sum_congr rfl fun k _ => congrArg₂ (· * ·) rfl ?_
    unfold padRows
    exact dif_pos k.isLt
  · intro k _
    have hz : padRows w (ix2 (Fin.natAdd 11008 k) s) = 0 := by
      unfold padRows
      exact dif_neg (by show ¬ (11008 + k.val < 11008); omega)
    rw [hz, mul_zero]

theorem downOf_eq (x : S24576x4096.Idx → EReal) (a : S24576x11264.Idx → EReal) (w : S2x11008x4096.Idx → EReal) (r : Fin 24576) (s : Fin 4096) :
    downOf x a (padRows w) (ix2 r s) = x (ix2 r s) + Ideal.ofBits FTy.f32 0x3F000000#32
      * ∑ k : Fin 11008, a (ix2 r (⟨k.val, by omega⟩ : Fin 11264)) * w (ix3 (0 : Fin 2) k s) :=
  congrArg (fun z => x (ix2 r s) + Ideal.ofBits FTy.f32 0x3F000000#32 * z) (quarters_eq a w r s)

end

open Cert.DownReferenceIdeal Cert.DownReferenceIdeal.Value Cert.DownReferenceIdeal.Read

/-- The reference's composed term is the residual of the same arrays. -/
theorem reference_eq (x0 : (⟨S24576x4096, .f32⟩ : BufTy).Contents (Elt Ideal)) (x1 : (⟨S24576x11264, .bf16⟩ : BufTy).Contents (Elt Ideal))
    (x2 : (⟨S2x11008x4096, .f32⟩ : BufTy).Contents (Elt Ideal)) :
    (val_main_v7 (F := Ideal) x0 x1 x2 : S24576x4096.Idx → EReal) = downOf x0 x1 (padRows x2) := by
  funext i
  rw [← val_main_v7_eq]
  idx_vars i
  rw [downOf_eq]
  pointwise []

end Cert.DownIdeal.Ffn

end
-- ==== Proof.OutValue.lean ====
module

public import proofs.«01_k».proof.Proof.Gen.OutIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Proj

open Cert.OutIdeal Cert.OutIdeal.Gen

variable (V : (c : Dev nD) → (b : Ref sig .tc) → Buf (Elt Ideal) ((c : Thread nD τ).loc b))

theorem index0 : ∀ t : Fin grid0.N, win0_0.index t = ![0, t.val / 8, t.val % 8]
    ∧ win0_1.index t = ![t.val / 8, t.val % 8] := by decide +kernel

/-- The layer's matrix. -/
def layerOf (w : S2x4096x4096.Idx → EReal) : S4096x4096.Idx → EReal := fun i => w (ix3 (0 : Fin 2) (i 0) (i 1))

/-- The first region casts the layer's matrix. -/
theorem layer_eq (c : Dev nD) : (dat0 V c).arrAt 1 cfg0.N = layerOf (V c main_arg2) := by
  refine (dat0 V c).arrAt_eq_of_covers 1 _ (by decide +kernel) fun t hf y => ?_
  blk_simp
  rw [after0_1]
  frame_out
  have e := index0 t
  unfold layerOf
  idx_vars y
  pointwise [k0_pay1]
  blk_point [iblk0, e.1, e.2]

theorem index1 : ∀ t : Fin grid1.N, win1_0.index t = ![t.val / 8, 0] ∧ win1_1.index t = ![0, t.val % 8]
    ∧ win1_2.index t = ![t.val / 8, t.val % 8] ∧ win1_3.index t = ![t.val / 8, t.val % 8] := by decide +kernel

/-- The rows with their product added. -/
def residual (x a : S24576x4096.Idx → EReal) (w : S4096x4096.Idx → EReal) : S24576x4096.Idx → EReal := fun i =>
  x i + ∑ k : Fin 4096, a (ix2 (i 0) k) * w (ix2 k (i 1))

/-- The second region adds the product, block by block. -/
theorem out_eq (c : Dev nD) : (dat1 V c).arrAt 3 cfg1.N = residual (V c main_arg0) (V c main_arg1) (V c main_v0) := by
  refine (dat1 V c).arrAt_eq_of_covers 3 _ (by decide +kernel) fun t hf y => ?_
  blk_simp
  rw [after1_3]
  frame_out
  obtain ⟨e0, e1, e2, e3⟩ := index1 t
  unfold residual
  idx_vars y
  pointwise [k1_pay1]
  blk_point [iblk1, e0, e1, e2, e3]

end Cert.OutIdeal.Proj

end
-- ==== Proof.OutRun.lean ====
module

public import proofs.«01_k».proof.Proof.OutValue

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.OutIdeal.Proj

open Cert.OutIdeal Cert.OutIdeal.Gen

local notation "𝕄" => MT nD τ sig Unit (Elt Ideal) ℕ (UR sig nD τ) ℕ

variable (m : (ℓ : Loc nD τ sig) → Buf (Elt Ideal) ℓ) (ρ : Dev nD → PrngReg)

/-- What the program computes from its arguments. -/
def result (c : Dev nD) : Buf (Elt Ideal) ((c : Thread nD τ).loc main_v1) :=
  residual (m ((c : Thread nD τ).loc main_arg0)) (m ((c : Thread nD τ).loc main_arg1)) (layerOf (m ((c : Thread nD τ).loc main_arg2)))

/-- After both regions the result array holds the residual. -/
theorem result_eq (c : Dev nD) : W2 m ρ c (Proc.devRef .tc main_v1) = result m c := by
  refine (W2_arr m ρ c 3).trans ?_
  rw [out_eq, show V1 m ρ c main_v0 = layerOf (m ((c : Thread nD τ).loc main_arg2)) from
      (W1_arr m ρ c 1).trans (by rw [layer_eq]),
    show V1 m ρ c main_arg0 = m ((c : Thread nD τ).loc main_arg0) from W1_args m ρ c main_arg0 (by simp),
    show V1 m ρ c main_arg1 = m ((c : Thread nD τ).loc main_arg1) from W1_args m ρ c main_arg1 (by simp)]
  rfl

set_option backward.isDefEq.respectTransparency.types false in
/-- From any memory with zero counters every weakly fair execution of the program terminates with the residual of
    its arguments in its result array, its arguments unchanged and every semaphore counter at zero. -/
theorem run : θ_run defs (onTc (τ := τ) (main (F := Ideal))) ⟨m, fun _ => 0, ρ⟩ (fun r => (∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_v1 (by decide))).trans (result_eq m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩), funext fun g => hz g (.inr (no_unscoped g.2))⟩)

end Cert.OutIdeal.Proj

end
-- ==== Proof.OutTie.lean ====
module

public import proofs.«01_k».proof.Proof.OutRun
public import proofs.«01_k».proof.Proof.Gen.OutReferenceIdeal.Run
public import proofs.«01_k».proof.Proof.Gen.OutReferenceIdeal.Read
public import Idealize.ShloMosaic.Lib.Pointwise

@[expose] public section

set_option maxRecDepth 16384

noncomputable section

open Idealize.ShloMosaic Idealize.ShloMosaic.TcCoe Idealize.SL.Sem

namespace Cert.OutIdeal.Proj

open Cert.OutReferenceIdeal Cert.OutReferenceIdeal.Value Cert.OutReferenceIdeal.Read

/-- The reference's composed term is the residual of the same arrays. -/
theorem reference_eq (x0 : (⟨S24576x4096, .f32⟩ : BufTy).Contents (Elt Ideal)) (x1 : (⟨S24576x4096, .bf16⟩ : BufTy).Contents (Elt Ideal))
    (x2 : (⟨S2x4096x4096, .f32⟩ : BufTy).Contents (Elt Ideal)) :
    (val_main_v4 (F := Ideal) x0 x1 x2 : S24576x4096.Idx → EReal) = residual x0 x1 (layerOf x2) := by
  funext i
  rw [← val_main_v4_eq]
  unfold residual layerOf
  idx_vars i
  pointwise []

end Cert.OutIdeal.Proj

end
-- ==== Proof.VtValue.lean ====
module

public import proofs.«01_k».proof.Proof.Gen.VtIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.VtIdeal.Values

open Cert.VtIdeal Cert.VtIdeal.Gen

variable (V : (c : Dev nD) → (b : Ref sig .tc) → Buf (Elt Ideal) ((c : Thread nD τ).loc b))

theorem index0 : ∀ t : Fin grid0.N, win0_0.index t = ![0, 4096 + 512 * (t.val % 4), 1024 * (t.val / 4)]
    ∧ win0_1.index t = ![t.val / 4, t.val % 4] := by decide +kernel

theorem emb0 (t : Fin grid0.N) (x : (win0_0.xblock (grid0.coords t)).Idx) (a : Fin 3) :
    (((View.whole main_v0).slice (win0_0.rect t)).emb x a : Nat) = win0_0.index t a + x a :=
  win0_0.rect_emb_val_off t x a

/-- The projection's columns of the values, from the transposed projection. -/
def columns (w : S2x26944x4096.Idx → EReal) : S4096x2048.Idx → EReal := fun i =>
  w (ix3 (0 : Fin 2) (⟨4096 + (i 1).val, by have h1 : (i 1).val < 2048 := (i 1).isLt; omega⟩ : Fin 26944) (i 0))

/-- The first region casts and transposes the values' columns. -/
theorem columns_eq (c : Dev nD) : (dat0 V c).arrAt 1 cfg0.N = columns (V c main_v0) := by
  refine (dat0 V c).arrAt_eq_of_covers 1 _ (by decide +kernel) fun t hf y => ?_
  blk_simp
  rw [after0_1]
  frame_out
  have e := index0 t
  unfold columns
  idx_vars y
  pointwise [k0_pay1]
  blk_point [iblk0, e.1, e.2]
  all_goals (refine (emb0 t _ _).trans ?_; rw [e.1]; simp; try omega)

theorem index1 : ∀ t : Fin grid1.N, win1_0.index t = ![t.val / 8, 0] ∧ win1_1.index t = ![0, t.val % 8]
    ∧ win1_2.index t = ![t.val % 8, t.val / 8, 0, 0] := by decide +kernel

/-- Each head's values, transposed tile by tile. -/
def valuesOf (u : S24576x4096.Idx → EReal) (w : S4096x2048.Idx → EReal) : S8x24x256x1024.Idx → EReal := fun i =>
  ∑ k : Fin 4096, u (ix2 (⟨1024 * (i 1).val + (i 3).val, by have h1 : (i 1).val < 24 := (i 1).isLt; have h3 : (i 3).val < 1024 := (i 3).isLt; omega⟩ : Fin 24576) k)
    * w (ix2 k (⟨256 * (i 0).val + (i 2).val, by have h1 : (i 0).val < 8 := (i 0).isLt; have h3 : (i 2).val < 256 := (i 2).isLt; omega⟩ : Fin 2048))

/-- The second region writes the transposed values, four stripes of 256 keys to a tile. -/
theorem values_eq (c : Dev nD) : (dat1 V c).arrAt 2 cfg1.N = valuesOf (V c main_arg0) (V c main_v1) := by
  refine (dat1 V c).arrAt_eq_of_covers 2 _ (by decide +kernel) fun t hf y => ?_
  blk_simp
  rw [after1_2]
  frame_out
  obtain ⟨e0, e1, e2⟩ := index1 t
  unfold valuesOf
  canon_tiles x h
  all_goals
    idx_vars x
    pointwise [k1_pay1, k1_pay2, k1_pay3, k1_pay4]
    blk_point [iblk1, e0, e1, e2]

end Cert.VtIdeal.Values

end
-- ==== Proof.VtRun.lean ====
module

public import proofs.«01_k».proof.Proof.VtValue

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.VtIdeal.Values

open Cert.VtIdeal Cert.VtIdeal.Gen

local notation "𝕄" => MT nD τ sig Unit (Elt Ideal) ℕ (UR sig nD τ) ℕ

variable (m : (ℓ : Loc nD τ sig) → Buf (Elt Ideal) ℓ) (ρ : Dev nD → PrngReg)

/-- The transposed projection. -/
def swapped (w : S2x4096x26944.Idx → EReal) : S2x26944x4096.Idx → EReal := fun i => w (ix3 (i 0) (i 2) (i 1))

/-- What the program computes from its arguments. -/
def result (c : Dev nD) : Buf (Elt Ideal) ((c : Thread nD τ).loc main_v2) :=
  valuesOf (m ((c : Thread nD τ).loc main_arg0)) (columns (swapped (m ((c : Thread nD τ).loc main_arg1))))

/-- The host transposes the projection before the first region. -/
theorem swapped_entry (c : Dev nD) : V1 m ρ c main_v0 = swapped (m ((c : Thread nD τ).loc main_arg1)) := by
  have e : V1 m ρ c main_v0 = transpose S2x26944x4096 [0, 2, 1] (m ((c : Thread nD τ).loc main_arg1))
      transposes_S2x4096x26944_S2x26944x4096_0_2_1 := by
    show StableHlo.after hostOps0 (W0 m ρ c) (Proc.devRef .tc main_v0) = _
    after_results_simp <;> rfl
  rw [e]
  funext i
  unfold swapped
  idx_vars i
  pointwise []

/-- After both regions the result array holds the product. -/
theorem result_eq (c : Dev nD) : W3 m ρ c (Proc.devRef .tc main_v2) = result m c := by
  refine (W3_arr m ρ c 2).trans ?_
  rw [values_eq, show V2 m ρ c main_v1 = columns (swapped (m ((c : Thread nD τ).loc main_arg1))) from
      (W2_arr m ρ c 1).trans (by rw [columns_eq, swapped_entry]),
    show V2 m ρ c main_arg0 = m ((c : Thread nD τ).loc main_arg0) from W2_args m ρ c main_arg0 (by simp)]
  rfl

set_option backward.isDefEq.respectTransparency.types false in
/-- From any memory with zero counters every weakly fair execution of the program terminates with the product of
    the rows and the columns in its result array, its arguments unchanged and every semaphore counter at zero. -/
theorem run : θ_run defs (onTc (τ := τ) (main (F := Ideal))) ⟨m, fun _ => 0, ρ⟩ (fun r => (∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v2 (by decide))).trans (result_eq m ρ c),
       (h c _ (mem_uc main_arg0 (by decide))).trans (W3_main_arg0 m ρ c),
       (h c _ (mem_uc main_arg1 (by decide))).trans (W3_main_arg1 m ρ c)⟩), funext fun g => hz g (.inr (no_unscoped g.2))⟩)

end Cert.VtIdeal.Values

end
-- ==== Proof.VtTie.lean ====
module

public import proofs.«01_k».proof.Proof.VtRun
public import proofs.«01_k».proof.Proof.Gen.VtReferenceIdeal.Run
public import proofs.«01_k».proof.Proof.Gen.VtReferenceIdeal.Read
public import Idealize.ShloMosaic.Lib.Pointwise

@[expose] public section

set_option maxRecDepth 16384

noncomputable section

open Idealize.ShloMosaic Idealize.ShloMosaic.TcCoe Idealize.SL.Sem

namespace Cert.VtIdeal.Values

open Cert.VtReferenceIdeal Cert.VtReferenceIdeal.Value Cert.VtReferenceIdeal.Read

/-- The reference's composed term is the values of the same arrays. -/
theorem reference_eq (x0 : (⟨S24576x4096, .bf16⟩ : BufTy).Contents (Elt Ideal)) (x1 : (⟨S2x4096x26944, .f32⟩ : BufTy).Contents (Elt Ideal)) :
    (val_main_v7 (F := Ideal) x0 x1 : S8x24x256x1024.Idx → EReal) = valuesOf x0 (columns (swapped x1)) := by
  funext i
  rw [← val_main_v7_eq]
  unfold valuesOf columns swapped
  idx_vars i
  pointwise []
  simp only [Nat.mul_comm 1024 _, Nat.mul_comm 256 _]

end Cert.VtIdeal.Values

end
-- ==== Proof.LatentValue.lean ====
module

public import proofs.«01_k».proof.Proof.Gen.LatentIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LatentIdeal.Proj

open Cert.LatentIdeal Cert.LatentIdeal.Gen

variable (V : (c : Dev nD) → (b : Ref sig .tc) → Buf (Elt Ideal) ((c : Thread nD τ).loc b))

theorem index0 : ∀ t : Fin grid0.N, win0_0.index t = ![0, 13056 + 256 * (t.val % 7), 1024 * (t.val / 7)]
    ∧ win0_1.index t = ![t.val / 7, t.val % 7] := by decide +kernel

theorem coords0 : ∀ t : Fin grid0.N, ((grid0.coords t) 0).val = t.val / 7 ∧ ((grid0.coords t) 1).val = t.val % 7 := by decide +kernel

theorem emb0 (t : Fin grid0.N) (x : (win0_0.xblock (grid0.coords t)).Idx) (a : Fin 3) :
    (((View.whole main_v0).slice (win0_0.rect t)).emb x a : Nat) = win0_0.index t a + x a :=
  win0_0.rect_emb_val_off t x a

/-- The mask keeps the columns before the 1600th. -/
theorem masked : ∀ (a : Fin 7) (b : Fin 256), IntOp.cmpi CmpIPredicate.slt
    (IntOp.addi (Scalar.muli (BitVec.ofNat 32 a.val) 256#32) (BitVec.ofNat 32 b.val)) 1600#32
      = if a.val * 256 + b.val < 1600 then 1#1 else 0#1 := by decide +kernel

/-- The projection's columns of the latent attention, from the transposed projection; beyond the last, zero. -/
def columns (w : S2x26944x4096.Idx → EReal) : S4096x1792.Idx → EReal := fun i =>
  if (i 1).val < 1600 then
    w (ix3 (0 : Fin 2) (⟨13056 + (i 1).val, by have h1 : (i 1).val < 1792 := (i 1).isLt; omega⟩ : Fin 26944) (i 0))
  else 0

/-- The first region casts and transposes the columns and masks the rest. -/
theorem columns_eq (c : Dev nD) : (dat0 V c).arrAt 1 cfg0.N = columns (V c main_v0) := by
  refine (dat0 V c).arrAt_eq_of_covers 1 _ (by decide +kernel) fun t hf y => ?_
  blk_simp
  rw [after0_1]
  frame_out
  have e := index0 t
  have g := coords0 t
  unfold columns
  idx_vars y
  pointwise [k0_pay1]
  have hc : (((View.whole main_v1).slice (win0_1.rect t)).emb (ix2 y0 y1) 1 : Nat) = t.val % 7 * 256 + y1.val :=
    (win0_1.rect_emb_val t (ix2 y0 y1) 1).trans (by rw [e.2]; rfl)
  rw [g.2, masked ⟨t.val % 7, Nat.mod_lt _ (by decide)⟩ y1]
  by_cases h : t.val % 7 * 256 + y1.val < 1600
  · rw [if_pos h, if_pos (hc.trans_lt h)]
    show iblk0 V c 0 t (ix3 (0 : Fin 1) y1 y0) = _
    blk_point [iblk0, e.1, e.2]
    all_goals (refine (emb0 t _ _).trans ?_; rw [e.1]; simp; try omega)
  · rw [if_neg h, if_neg (fun h' => h (hc.symm.trans_lt h'))]
    rfl

theorem index1 : ∀ t : Fin grid1.N, win1_0.index t = ![t.val / 7, 0] ∧ win1_1.index t = ![0, t.val % 7]
    ∧ win1_2.index t = ![t.val / 7, t.val % 7] := by decide +kernel

/-- The rows' product with the columns. -/
def product (u : S24576x4096.Idx → EReal) (w : S4096x1792.Idx → EReal) : S24576x1792.Idx → EReal := fun i =>
  ∑ k : Fin 4096, u (ix2 (i 0) k) * w (ix2 k (i 1))

/-- The second region writes the product. -/
theorem product_eq (c : Dev nD) : (dat1 V c).arrAt 2 cfg1.N = product (V c main_arg0) (V c main_v1) := by
  refine (dat1 V c).arrAt_eq_of_covers 2 _ (by decide +kernel) fun t hf y => ?_
  blk_simp
  rw [after1_2]
  frame_out
  obtain ⟨e0, e1, e2⟩ := index1 t
  unfold product
  idx_vars y
  pointwise [k1_pay1]
  blk_point [iblk1, e0, e1, e2]

end Cert.LatentIdeal.Proj

end
-- ==== Proof.LatentRun.lean ====
module

public import proofs.«01_k».proof.Proof.LatentValue

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.LatentIdeal.Proj

open Cert.LatentIdeal Cert.LatentIdeal.Gen

local notation "𝕄" => MT nD τ sig Unit (Elt Ideal) ℕ (UR sig nD τ) ℕ

variable (m : (ℓ : Loc nD τ sig) → Buf (Elt Ideal) ℓ) (ρ : Dev nD → PrngReg)

/-- The transposed projection. -/
def swapped (w : S2x4096x26944.Idx → EReal) : S2x26944x4096.Idx → EReal := fun i => w (ix3 (i 0) (i 2) (i 1))

/-- What the program computes from its arguments. -/
def result (c : Dev nD) : Buf (Elt Ideal) ((c : Thread nD τ).loc main_v2) :=
  product (m ((c : Thread nD τ).loc main_arg0)) (columns (swapped (m ((c : Thread nD τ).loc main_arg1))))

/-- The host transposes the projection before the first region. -/
theorem swapped_entry (c : Dev nD) : V1 m ρ c main_v0 = swapped (m ((c : Thread nD τ).loc main_arg1)) := by
  have e : V1 m ρ c main_v0 = transpose S2x26944x4096 [0, 2, 1] (m ((c : Thread nD τ).loc main_arg1))
      transposes_S2x4096x26944_S2x26944x4096_0_2_1 := by
    show StableHlo.after hostOps0 (W0 m ρ c) (Proc.devRef .tc main_v0) = _
    after_results_simp <;> rfl
  rw [e]
  funext i
  unfold swapped
  idx_vars i
  pointwise []

/-- After both regions the result array holds the product. -/
theorem result_eq (c : Dev nD) : W3 m ρ c (Proc.devRef .tc main_v2) = result m c := by
  refine (W3_arr m ρ c 2).trans ?_
  rw [product_eq, show V2 m ρ c main_v1 = columns (swapped (m ((c : Thread nD τ).loc main_arg1))) from
      (W2_arr m ρ c 1).trans (by rw [columns_eq, swapped_entry]),
    show V2 m ρ c main_arg0 = m ((c : Thread nD τ).loc main_arg0) from W2_args m ρ c main_arg0 (by simp)]
  rfl

set_option backward.isDefEq.respectTransparency.types false in
/-- From any memory with zero counters every weakly fair execution of the program terminates with the product of
    the rows and the columns in its result array, its arguments unchanged and every semaphore counter at zero. -/
theorem run : θ_run defs (onTc (τ := τ) (main (F := Ideal))) ⟨m, fun _ => 0, ρ⟩ (fun r => (∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v2 (by decide))).trans (result_eq m ρ c),
       (h c _ (mem_uc main_arg0 (by decide))).trans (W3_main_arg0 m ρ c),
       (h c _ (mem_uc main_arg1 (by decide))).trans (W3_main_arg1 m ρ c)⟩), funext fun g => hz g (.inr (no_unscoped g.2))⟩)

end Cert.LatentIdeal.Proj

end
-- ==== Proof.LatentTie.lean ====
module

public import proofs.«01_k».proof.Proof.LatentRun
public import proofs.«01_k».proof.Proof.Gen.LatentReferenceIdeal.Run
public import proofs.«01_k».proof.Proof.Gen.LatentReferenceIdeal.Read
public import Idealize.ShloMosaic.Lib.Pointwise

@[expose] public section

set_option maxRecDepth 16384

noncomputable section

open Idealize.ShloMosaic Idealize.ShloMosaic.TcCoe Idealize.SL.Sem

namespace Cert.LatentIdeal.Proj

open Cert.LatentReferenceIdeal Cert.LatentReferenceIdeal.Value Cert.LatentReferenceIdeal.Read

/-- The integer zero the padding starts from, as a float. -/
theorem zero_entry : (FloatOps.sitofp (F := Ideal) .f32 (0#32) : EReal) = 0 := by
  show (((0#32 : BitVec 32).toInt : ℝ) : EReal) = 0
  simp

/-- The reference's composed term is the product of the same arrays. -/
theorem reference_eq (x0 : (⟨S24576x4096, .bf16⟩ : BufTy).Contents (Elt Ideal)) (x1 : (⟨S2x4096x26944, .f32⟩ : BufTy).Contents (Elt Ideal)) :
    (val_main_v5 (F := Ideal) x0 x1 : S24576x1792.Idx → EReal) = product x0 (columns (swapped x1)) := by
  funext i
  rw [← val_main_v5_eq]
  unfold product columns swapped
  idx_vars i
  pointwise []
  by_cases h : i1.val < 1600
  · rw [dif_pos h]
    simp only [if_pos h]
  · rw [dif_neg h]
    simp only [if_neg h, mul_zero, Finset.sum_const_zero]
    exact zero_entry

end Cert.LatentIdeal.Proj

end
-- ==== Proof.DownTwoValue.lean ====
module

public import proofs.«01_k».proof.Proof.DownTwoIdealBody
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownTwoIdeal.Ffn

open Cert.DownTwoIdeal Cert.DownTwoIdeal.Gen

variable (m : (ℓ : Loc nD τ sig) → Buf (Elt Ideal) ℓ)

theorem index0 : ∀ t : Fin grid0.N, win0_0.index t = ![t.val / 16, t.val % 4] ∧ win0_1.index t = ![t.val % 4, t.val / 4 % 4]
    ∧ win0_2.index t = ![t.val / 16, t.val / 4 % 4] ∧ win0_3.index t = ![min (t.val / 16) 7, if t.val < 128 then t.val / 4 % 4 else 3]
    ∧ win0_4.index t = ![t.val / 16 - 8, if t.val < 128 then 0 else t.val / 4 % 4] := by decide +kernel

/-- The product of one quarter of the contracted axis. -/
def quarter (a : S24576x11264.Idx → EReal) (w : S11264x4096.Idx → EReal) (q : ℕ) (hq : q < 4) (r : Fin 24576) (s : Fin 4096) : EReal :=
  ∑ k : Fin 2816, a (ix2 r (⟨2816 * q + k.val, by omega⟩ : Fin 11264)) * w (ix2 (⟨2816 * q + k.val, by omega⟩ : Fin 11264) s)

theorem quarter_congr (a : S24576x11264.Idx → EReal) (w : S11264x4096.Idx → EReal) {q q' : ℕ} (hq : q < 4) (hq' : q' < 4)
    {r r' : Fin 24576} {s s' : Fin 4096} (e : q = q') (er : r.val = r'.val) (es : s.val = s'.val) :
    quarter a w q hq r s = quarter a w q' hq' r' s' := by
  subst e
  obtain rfl := Fin.ext er
  obtain rfl := Fin.ext es
  rfl

/-- What one point's product is. -/
theorem part_eq (c : Dev nD) (t : Fin cfg0.N) (y0 y1 : Fin 1024) :
    k0_pay1 (F := Ideal) (iblk m c 0 t) (iblk m c 1 t) (ix2 y0 y1)
      = quarter (V m c main_arg1) (V m c main_v3) (t.val % 4) (by omega)
          (⟨1024 * (t.val / 16) + y0.val, by have := lt_of_lt_of_eq t.isLt (show cfg0.N = 384 from N_0); omega⟩ : Fin 24576)
          (⟨1024 * (t.val / 4 % 4) + y1.val, by omega⟩ : Fin 4096) := by
  obtain ⟨e0, e1, e2, -, -⟩ := index0 t
  unfold quarter
  pointwise [k0_pay1]
  blk_point [iblk, e0, e1, e2]

/-- The residual's block. -/
def resid (c : Dev nD) (t : Fin cfg0.N) : S1024x1024.Idx → EReal := iblk m c 2 t

theorem resid_eq (c : Dev nD) (t : Fin cfg0.N) (y0 y1 : Fin 1024) :
    resid m c t (ix2 y0 y1) = V m c main_arg0 (ix2
      (⟨1024 * (t.val / 16) + y0.val, by have := lt_of_lt_of_eq t.isLt (show cfg0.N = 384 from N_0); omega⟩ : Fin 24576)
      (⟨1024 * (t.val / 4 % 4) + y1.val, by omega⟩ : Fin 4096)) := by
  obtain ⟨e0, e1, e2, -, -⟩ := index0 t
  unfold resid
  blk_point [iblk, e2]

theorem first3 (c : Dev nD) (t : Fin cfg0.N) (hr : t.val < 128) (h : t.val % 4 = 0) (y : S1024x1024.Idx) :
    outs3 m c t.val t.isLt y = k0_pay1 (F := Ideal) (iblk m c 0 t) (iblk m c 1 t) y := by
  rw [outs3_A m c t hr h]
  unfold atA
  frame_out

theorem middle3 (c : Dev nD) (t : Fin cfg0.N) (hr : t.val < 128) (h : 1 ≤ t.val % 4 ∧ t.val % 4 ≤ 2) (y : S1024x1024.Idx) :
    outs3 m c t.val t.isLt y = outs3 m c (t.val - 1) (Nat.lt_of_le_of_lt (Nat.sub_le _ _) t.isLt) y
      + k0_pay1 (F := Ideal) (iblk m c 0 t) (iblk m c 1 t) y := by
  rw [outs3_B m c t hr h]
  unfold atB
  frame_out
  idx_vars y
  pointwise [k0_pay1, k0_pay2]

theorem last3 (c : Dev nD) (t : Fin cfg0.N) (hr : t.val < 128) (h : t.val % 4 = 3) (y : S1024x1024.Idx) :
    outs3 m c t.val t.isLt y = resid m c t y + Ideal.ofBits FTy.f32 0x3F000000#32
      * (outs3 m c (t.val - 1) (Nat.lt_of_le_of_lt (Nat.sub_le _ _) t.isLt) y
        + k0_pay1 (F := Ideal) (iblk m c 0 t) (iblk m c 1 t) y) := by
  rw [outs3_C m c t hr h]
  unfold atC
  frame_out
  unfold resid
  idx_vars y
  pointwise [k0_pay1, k0_pay3]

theorem first4 (c : Dev nD) (t : Fin cfg0.N) (hr : 128 ≤ t.val) (h : t.val % 4 = 0) (y : S1024x1024.Idx) :
    outs4 m c t.val t.isLt y = k0_pay1 (F := Ideal) (iblk m c 0 t) (iblk m c 1 t) y := by
  rw [outs4_D m c t hr h]
  unfold atD
  frame_out
  rfl

theorem middle4 (c : Dev nD) (t : Fin cfg0.N) (hr : 128 ≤ t.val) (h : 1 ≤ t.val % 4 ∧ t.val % 4 ≤ 2) (y : S1024x1024.Idx) :
    outs4 m c t.val t.isLt y = outs4 m c (t.val - 1) (Nat.lt_of_le_of_lt (Nat.sub_le _ _) t.isLt) y
      + k0_pay1 (F := Ideal) (iblk m c 0 t) (iblk m c 1 t) y := by
  rw [outs4_E m c t hr h]
  unfold atE
  frame_out
  idx_vars y
  pointwise [k0_pay1, k0_pay5]

theorem last4 (c : Dev nD) (t : Fin cfg0.N) (hr : 128 ≤ t.val) (h : t.val % 4 = 3) (y : S1024x1024.Idx) :
    outs4 m c t.val t.isLt y = resid m c t y + Ideal.ofBits FTy.f32 0x3F000000#32
      * (outs4 m c (t.val - 1) (Nat.lt_of_le_of_lt (Nat.sub_le _ _) t.isLt) y
        + k0_pay1 (F := Ideal) (iblk m c 0 t) (iblk m c 1 t) y) := by
  rw [outs4_G m c t hr h]
  unfold atG
  frame_out
  unfold resid
  idx_vars y
  pointwise [k0_pay1, k0_pay6]

/-- The residual with the product's four quarters, at a row and a column. -/
def downAt (x : S24576x4096.Idx → EReal) (a : S24576x11264.Idx → EReal) (w : S11264x4096.Idx → EReal) (r : Fin 24576) (s : Fin 4096) : EReal :=
  x (ix2 r s) + Ideal.ofBits FTy.f32 0x3F000000#32 * (((quarter a w 0 (by omega) r s + quarter a w 1 (by omega) r s)
    + quarter a w 2 (by omega) r s) + quarter a w 3 (by omega) r s)

/-- The first 8192 rows, and the other 16384. -/
def lowOf (x : S24576x4096.Idx → EReal) (a : S24576x11264.Idx → EReal) (w : S11264x4096.Idx → EReal) : S8192x4096.Idx → EReal := fun i =>
  downAt x a w (⟨(i 0).val, lt_trans (i 0).isLt (by decide)⟩ : Fin 24576) (i 1)
def highOf (x : S24576x4096.Idx → EReal) (a : S24576x11264.Idx → EReal) (w : S11264x4096.Idx → EReal) : S16384x4096.Idx → EReal := fun i =>
  downAt x a w (⟨8192 + (i 0).val, Nat.add_lt_add_left (i 0).isLt 8192⟩ : Fin 24576) (i 1)

/-- What output 0's buffer holds at the last quarter of a block. -/
theorem block3 (c : Dev nD) (t : Fin cfg0.N) (hr : t.val < 128) (h3 : t.val % 4 = 3) (y0 y1 : Fin 1024) :
    outs3 m c t.val t.isLt (ix2 y0 y1) = downAt (V m c main_arg0) (V m c main_arg1) (V m c main_v3)
      (⟨1024 * (t.val / 16) + y0.val, by have := lt_of_lt_of_eq t.isLt (show cfg0.N = 384 from N_0); omega⟩ : Fin 24576)
      (⟨1024 * (t.val / 4 % 4) + y1.val, by omega⟩ : Fin 4096) := by
  have hN : t.val < 384 := lt_of_lt_of_eq t.isLt (show cfg0.N = 384 from N_0)
  have s3 := last3 m c t hr h3 (ix2 y0 y1)
  have s2 := middle3 m c ⟨t.val - 1, Nat.lt_of_le_of_lt (Nat.sub_le _ _) t.isLt⟩ (by dsimp only; omega) (by dsimp only; omega) (ix2 y0 y1)
  have s1 := middle3 m c ⟨t.val - 1 - 1, lt_of_lt_of_eq (show t.val - 1 - 1 < 384 by omega) (show cfg0.N = 384 from N_0).symm⟩ (by dsimp only; omega) (by dsimp only; omega) (ix2 y0 y1)
  have s0 := first3 m c ⟨t.val - 1 - 1 - 1, lt_of_lt_of_eq (show t.val - 1 - 1 - 1 < 384 by omega) (show cfg0.N = 384 from N_0).symm⟩ (by dsimp only; omega) (by dsimp only; omega) (ix2 y0 y1)
  dsimp only at s2 s1 s0
  rw [s3, s2, s1, s0, part_eq, part_eq, part_eq, part_eq, resid_eq]
  unfold downAt
  refine congrArg₂ (· + ·) rfl (congrArg₂ (· * ·) rfl (congrArg₂ (· + ·) (congrArg₂ (· + ·) (congrArg₂ (· + ·) ?_ ?_) ?_) ?_))
  all_goals
    refine quarter_congr _ _ _ _ ?_ ?_ ?_
    all_goals first | omega | (dsimp only; omega) | (show _ = _ + _; dsimp only <;> omega)

/-- What output 1's buffer holds at the last quarter of a block. -/
theorem block4 (c : Dev nD) (t : Fin cfg0.N) (hr : 128 ≤ t.val) (h3 : t.val % 4 = 3) (y0 y1 : Fin 1024) :
    outs4 m c t.val t.isLt (ix2 y0 y1) = downAt (V m c main_arg0) (V m c main_arg1) (V m c main_v3)
      (⟨1024 * (t.val / 16) + y0.val, by have := lt_of_lt_of_eq t.isLt (show cfg0.N = 384 from N_0); omega⟩ : Fin 24576)
      (⟨1024 * (t.val / 4 % 4) + y1.val, by omega⟩ : Fin 4096) := by
  have hN : t.val < 384 := lt_of_lt_of_eq t.isLt (show cfg0.N = 384 from N_0)
  have s3 := last4 m c t hr h3 (ix2 y0 y1)
  have s2 := middle4 m c ⟨t.val - 1, Nat.lt_of_le_of_lt (Nat.sub_le _ _) t.isLt⟩ (by dsimp only; omega) (by dsimp only; omega) (ix2 y0 y1)
  have s1 := middle4 m c ⟨t.val - 1 - 1, lt_of_lt_of_eq (show t.val - 1 - 1 < 384 by omega) (show cfg0.N = 384 from N_0).symm⟩ (by dsimp only; omega) (by dsimp only; omega) (ix2 y0 y1)
  have s0 := first4 m c ⟨t.val - 1 - 1 - 1, lt_of_lt_of_eq (show t.val - 1 - 1 - 1 < 384 by omega) (show cfg0.N = 384 from N_0).symm⟩ (by dsimp only; omega) (by dsimp only; omega) (ix2 y0 y1)
  dsimp only at s2 s1 s0
  rw [s3, s2, s1, s0, part_eq, part_eq, part_eq, part_eq, resid_eq]
  unfold downAt
  refine congrArg₂ (· + ·) rfl (congrArg₂ (· * ·) rfl (congrArg₂ (· + ·) (congrArg₂ (· + ·) (congrArg₂ (· + ·) ?_ ?_) ?_) ?_))
  all_goals
    refine quarter_congr _ _ _ _ ?_ ?_ ?_
    all_goals first | omega | (dsimp only; omega) | (show _ = _ + _; dsimp only <;> omega)

/-- The last block of the first output stays in its buffer to the end. -/
theorem low_carry (c : Dev nD) (t : Fin cfg0.N) (h : 128 ≤ t.val) :
    outs3 m c t.val t.isLt = outs3 m c 127 (by rw [show cfg0.N = 384 from N_0]; decide) := by
  obtain ⟨n, hn⟩ := t
  induction n with
  | zero => exact absurd h (by dsimp only; omega)
  | succ n ih =>
    refine (outs3_idle m c ⟨n + 1, hn⟩ (by dsimp only; omega) h).trans ?_
    by_cases h' : 128 ≤ n
    · exact ih (Nat.lt_of_succ_lt hn) h'
    · obtain rfl : n = 127 := by dsimp only at h; omega
      rfl

theorem low_eq (c : Dev nD) : (dats m 0 c).arrAt 3 cfg0.N = lowOf (V m c main_arg0) (V m c main_arg1) (V m c main_v3) := by
  refine (dats m 0 c).arrAt_eq_of_covers 3 _ (by decide +kernel) fun t hf y => ?_
  have hN : t.val < 384 := lt_of_lt_of_eq t.isLt (show cfg0.N = 384 from N_0)
  rw [flush_out3, decide_eq_true_eq] at hf
  blk_simp
  rw [after0_3]
  obtain ⟨-, -, -, e3, -⟩ := index0 t
  idx_vars y
  obtain ⟨u, hu, hu3, ho, hi⟩ : ∃ u : Fin cfg0.N, u.val < 128 ∧ u.val % 4 = 3 ∧ outs3 m c t.val t.isLt = outs3 m c u.val u.isLt
      ∧ win0_3.index t = ![u.val / 16, u.val / 4 % 4] := by
    by_cases h : t.val < 128
    · refine ⟨t, h, by omega, rfl, ?_⟩
      rw [e3, if_pos h, min_eq_left (by omega)]
    · refine ⟨⟨127, by rw [show cfg0.N = 384 from N_0]; decide⟩, by decide, by decide, low_carry m c t (by omega), ?_⟩
      rw [e3, if_neg h, min_eq_right (by omega)]
      rfl
  rw [ho, block3 m c u hu hu3]
  have he : (win0_3.blk t).view.emb (ix2 y0 y1) = ix2 (⟨1024 * (u.val / 16) + y0.val, by omega⟩ : Fin 8192)
      (⟨1024 * (u.val / 4 % 4) + y1.val, by omega⟩ : Fin 4096) := by
    blk_ext [hi]
  unfold lowOf
  rw [he]
  rfl

theorem high_eq (c : Dev nD) : (dats m 0 c).arrAt 4 cfg0.N = highOf (V m c main_arg0) (V m c main_arg1) (V m c main_v3) := by
  refine (dats m 0 c).arrAt_eq_of_covers 4 _ (by decide +kernel) fun t hf y => ?_
  have hN : t.val < 384 := lt_of_lt_of_eq t.isLt (show cfg0.N = 384 from N_0)
  rw [flush_out4, decide_eq_true_eq] at hf
  blk_simp
  rw [after0_4]
  obtain ⟨-, -, -, -, e4⟩ := index0 t
  rw [if_neg (by omega)] at e4
  idx_vars y
  rw [block4 m c t hf.1 hf.2]
  have he : (win0_4.blk t).view.emb (ix2 y0 y1) = ix2 (⟨1024 * (t.val / 16 - 8) + y0.val, by omega⟩ : Fin 16384)
      (⟨1024 * (t.val / 4 % 4) + y1.val, by omega⟩ : Fin 4096) := by
    blk_ext [e4]
  unfold highOf
  rw [he]
  refine congrArg (fun r => downAt _ _ _ r _) (Fin.ext ?_)
  show 1024 * (t.val / 16) + y0.val = 8192 + (1024 * (t.val / 16 - 8) + y0.val)
  omega

end Cert.DownTwoIdeal.Ffn

end
-- ==== Proof.DownTwoTie.lean ====
module

public import proofs.«01_k».proof.Proof.DownTwoValue
public import proofs.«01_k».proof.Proof.Gen.DownTwoReferenceIdeal.Run
public import proofs.«01_k».proof.Proof.Gen.DownTwoReferenceIdeal.Read

@[expose] public section

set_option maxRecDepth 16384

noncomputable section

open Idealize.ShloMosaic Idealize.ShloMosaic.TcCoe Idealize.SL.Sem

namespace Cert.DownTwoIdeal.Ffn

/-- The integer zero the padding starts from, as a float. -/
theorem zero_entry : (FloatOps.sitofp (F := Ideal) .f32 (0#32) : EReal) = 0 := by
  show (((0#32 : BitVec 32).toInt : ℝ) : EReal) = 0
  simp

section
open Cert.DownTwoIdeal Cert.DownTwoIdeal.Gen

/-- The layer's weights with zero rows after the last. -/
def padRows (w : S2x11008x4096.Idx → EReal) : S11264x4096.Idx → EReal := fun i =>
  if h : (i 0).val < 11008 then w (ix3 (1 : Fin 2) (⟨(i 0).val, h⟩ : Fin 11008) (i 1)) else 0

variable (m : (ℓ : Loc nD τ sig) → Buf (Elt Ideal) ℓ) (ρ : Dev nD → PrngReg)

theorem wd_entry (c : Dev nD) : V m c main_v3 = padRows (m ((c : Thread nD τ).loc main_arg2)) := by
  have e : V m c main_v3 = truncf (F := Ideal) .bf16 (pad S11264x4096 ![0, 0] ![256, 0] ![0, 0]
      (shapeCast S11008x4096 (extractStridedSlice S1x11008x4096 ![1, 0, 0] (m ((c : Thread nD τ).loc main_arg2))
        slices_S2x11008x4096_S1x11008x4096_1_0_0) shapeCasts_S1x11008x4096_S11008x4096)
      (sitofp .f32 (constantI S_ 32 0#32)) pads_S11008x4096_S11264x4096_02560_000 h_S_) bitsLt_bf16_f32 := by
    show StableHlo.after (List.flatten [hostOps0, hostOps0_1, hostOps0_2]) _ (Proc.devRef .tc main_v3) = _
    simp only [hostOps0, hostOps0_1, hostOps0_2, List.flatten_cons, List.flatten_nil, List.append_nil, List.cons_append, List.nil_append]
    after_results_simp <;> rfl
  rw [e]
  funext i
  unfold padRows
  idx_vars i
  pointwise []
  by_cases h : i0.val < 11008
  · rw [dif_pos h, dif_pos h]
  · simp only [h, dif_neg, not_false_eq_true]
    exact zero_entry

/-- What the program computes from its arguments: the two outputs. -/
def result0 (c : Dev nD) : Buf (Elt Ideal) ((c : Thread nD τ).loc main_v4_0) :=
  lowOf (m ((c : Thread nD τ).loc main_arg0)) (m ((c : Thread nD τ).loc main_arg1)) (padRows (m ((c : Thread nD τ).loc main_arg2)))
def result1 (c : Dev nD) : Buf (Elt Ideal) ((c : Thread nD τ).loc main_v4_1) :=
  highOf (m ((c : Thread nD τ).loc main_arg0)) (m ((c : Thread nD τ).loc main_arg1)) (padRows (m ((c : Thread nD τ).loc main_arg2)))

theorem result0_eq (c : Dev nD) : (dats m 0 c).arrAt 3 cfg0.N = result0 m c := by
  rw [low_eq, wd_entry, show V m c main_arg0 = m ((c : Thread nD τ).loc main_arg0) from V_main_arg0 m c,
    show V m c main_arg1 = m ((c : Thread nD τ).loc main_arg1) from V_main_arg1 m c]
  rfl
theorem result1_eq (c : Dev nD) : (dats m 0 c).arrAt 4 cfg0.N = result1 m c := by
  rw [high_eq, wd_entry, show V m c main_arg0 = m ((c : Thread nD τ).loc main_arg0) from V_main_arg0 m c,
    show V m c main_arg1 = m ((c : Thread nD τ).loc main_arg1) from V_main_arg1 m c]
  rfl

/-- The run, with both outputs and the arguments named. -/
theorem run : θ_run defs (onTc (τ := τ) (main (F := Ideal))) ⟨m, fun _ => 0, ρ⟩ fun r => ∀ c : Dev nD,
      r.2.mem ((c : Thread nD τ).loc main_v4_0) = result0 m c
      ∧ r.2.mem ((c : Thread nD τ).loc main_v4_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (result0_eq m c), ((h.1 c).1 4).trans (result1_eq m c), h.2.1 c⟩)
    (θ_run_and (run_main m ρ) (frame m ρ))

/-- The four quarters are the whole contracted axis, and its padded end adds nothing. -/
theorem quarters_eq (a : S24576x11264.Idx → EReal) (w : S2x11008x4096.Idx → EReal) (r : Fin 24576) (s : Fin 4096) :
    ((quarter a (padRows w) 0 (by omega) r s + quarter a (padRows w) 1 (by omega) r s) + quarter a (padRows w) 2 (by omega) r s)
        + quarter a (padRows w) 3 (by omega) r s
      = ∑ k : Fin 11008, a (ix2 r (⟨k.val, by omega⟩ : Fin 11264)) * w (ix3 (1 : Fin 2) k s) := by
  have hs : ∀ f : Fin 11264 → EReal, ((∑ k : Fin 2816, f ⟨2816 * 0 + k.val, by omega⟩) + (∑ k : Fin 2816, f ⟨2816 * 1 + k.val, by omega⟩)
      + (∑ k : Fin 2816, f ⟨2816 * 2 + k.val, by omega⟩)) + (∑ k : Fin 2816, f ⟨2816 * 3 + k.val, by omega⟩)
      = ∑ k : Fin 11264, f k := by
    intro f
    have e3 := Fin.sum_univ_add (a := 8448) (b := 2816) f
    have e2 := Fin.sum_univ_add (a := 5632) (b := 2816) fun k => f (Fin.castAdd 2816 k)
    have e1 := Fin.sum_univ_add (a := 2816) (b := 2816) fun k => f (Fin.castAdd 2816 (Fin.castAdd 2816 k))
    refine Eq.trans ?_ (e3.trans (congrArg (· + _) (e2.trans (congrArg (· + _) e1)))).symm
    refine congrArg₂ (· + ·) (congrArg₂ (· + ·) (congrArg₂ (· + ·) ?_ ?_) ?_) ?_ <;>
      exact Finset.sum_congr rfl fun k _ => congrArg f (Fin.ext (by simp [Nat.add_comm]))
  refine (hs fun k => a (ix2 r k) * padRows w (ix2 k s)).trans ?_
  have e := Fin.sum_univ_add (a := 11008) (b := 256) fun k : Fin 11264 => a (ix2 r k) * padRows w (ix2 k s)
  refine e.trans ?_
  rw [Finset.sum_eq_zero (s := Finset.univ) (f := fun k : Fin 256 => a (ix2 r (Fin.natAdd 11008 k)) * padRows w (ix2 (Fin.natAdd 11008 k) s)), add_zero]
  · refine Finset.sum_congr rfl fun k _ => congrArg₂ (· * ·) rfl ?_
    unfold padRows
    exact dif_pos k.isLt
  · intro k _
    have hz : padRows w (ix2 (Fin.natAdd 11008 k) s) = 0 := by
      unfold padRows
      exact dif_neg (by show ¬ (11008 + k.val < 11008); omega)
    rw [hz, mul_zero]

theorem downAt_eq (x : S24576x4096.Idx → EReal) (a : S24576x11264.Idx → EReal) (w : S2x11008x4096.Idx → EReal) (r : Fin 24576) (s : Fin 4096) :
    downAt x a (padRows w) r s = x (ix2 r s) + Ideal.ofBits FTy.f32 0x3F000000#32
      * ∑ k : Fin 11008, a (ix2 r (⟨k.val, by omega⟩ : Fin 11264)) * w (ix3 (1 : Fin 2) k s) :=
  congrArg (fun z => x (ix2 r s) + Ideal.ofBits FTy.f32 0x3F000000#32 * z) (quarters_eq a w r s)

end

open Cert.DownTwoReferenceIdeal Cert.DownTwoReferenceIdeal.Value Cert.DownTwoReferenceIdeal.Read

/-- The reference's composed terms are the residual's two parts of the same arrays. -/
theorem reference0_eq (x0 : (⟨S24576x4096, .f32⟩ : BufTy).Contents (Elt Ideal)) (x1 : (⟨S24576x11264, .bf16⟩ : BufTy).Contents (Elt Ideal))
    (x2 : (⟨S2x11008x4096, .f32⟩ : BufTy).Contents (Elt Ideal)) :
    (val_main_v8 (F := Ideal) x0 x1 x2 : S8192x4096.Idx → EReal) = lowOf x0 x1 (padRows x2) := by
  funext i
  rw [← val_main_v8_eq]
  idx_vars i
  refine Eq.trans ?_ (downAt_eq x0 x1 x2 (⟨i0.val, by omega⟩ : Fin 24576) i1).symm
  pointwise []

theorem reference1_eq (x0 : (⟨S24576x4096, .f32⟩ : BufTy).Contents (Elt Ideal)) (x1 : (⟨S24576x11264, .bf16⟩ : BufTy).Contents (Elt Ideal))
    (x2 : (⟨S2x11008x4096, .f32⟩ : BufTy).Contents (Elt Ideal)) :
    (val_main_v9 (F := Ideal) x0 x1 x2 : S16384x4096.Idx → EReal) = highOf x0 x1 (padRows x2) := by
  funext i
  rw [← val_main_v9_eq]
  idx_vars i
  refine Eq.trans ?_ (downAt_eq x0 x1 x2 (⟨8192 + i0.val, by omega⟩ : Fin 24576) i1).symm
  pointwise []

end Cert.DownTwoIdeal.Ffn

end
-- ==== Proof.MlaIdealBody.lean ====
module

public import proofs.«01_k».proof.Proof.Gen.MlaIdeal.Frame
public import proofs.«01_k».proof.Proof.Gen.MlaIdeal.Skeleton
public import proofs.«01_k».proof.Proof.Gen.MlaIdeal.Loops
public import Idealize.ShloMosaic.Lib.WholeRead
public import Idealize.ShloMosaic.Lib.VecWindow
public import Idealize.ShloMosaic.Lib.WritesUnit
public import Idealize.ShloMosaic.Lib.Pointwise
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MlaIdeal.Gen

variable {F : FTy → Type} [FloatOps F]

local notation "𝕄" => MT nD τ sig Unit (Elt F) ℕ (UR sig nD τ) ℕ

/-! ## The attention block as a recursion over the eight key blocks -/

/-- Key block `j`: rows `1024·j` to `1024·j + 1023`. -/
def kb (x1 : Vec F S8192x256 .bf16) (j : ℕ) : Vec F S1024x256 .bf16 :=
  fun y => x1 (ix2 ⟨(1024 * j + (y 0).val) % 8192, Nat.mod_lt _ (by decide)⟩ (y 1))
/-- Value block `j`, transposed as it is stored. -/
def vb (x2 : Vec F S1x8x144x1024 .bf16) (j : ℕ) : Vec F S1x1x144x1024 .bf16 :=
  fun y => x2 (ix4 0 ⟨j % 8, Nat.mod_lt _ (by decide)⟩ (y 2) (y 3))
/-- The scores of block `j`, keys by queries. -/
def sc (x0 : Vec F S2048x256 .bf16) (x1 : Vec F S8192x256 .bf16) (j : ℕ) : FVec F S1x1024x2048 .f32 :=
  k0_pay4 (k0_pay8 x0) (kb x1 j)
/-- Its largest score per query. -/
def mx (x0 : Vec F S2048x256 .bf16) (x1 : Vec F S8192x256 .bf16) (j : ℕ) : FVec F S1x2048 .f32 :=
  k0_pay5 (k0_pay8 x0) (kb x1 j)
/-- The largest score per query of the blocks before `j`. -/
def mrun (x0 : Vec F S2048x256 .bf16) (x1 : Vec F S8192x256 .bf16) : ℕ → FVec F S1x2048 .f32
  | 0 => k0_pay10
  | j + 1 => k0_pay6 (mrun x0 x1 j) (mx x0 x1 j)
/-- The accumulator before block `j`. -/
def arun (x0 : Vec F S2048x256 .bf16) (x1 : Vec F S8192x256 .bf16) (x2 : Vec F S1x8x144x1024 .bf16) : ℕ → FVec F S1x144x2048 .f32
  | 0 => k0_pay9
  | j + 1 => k0_pay7 (mrun x0 x1 j) (mx x0 x1 j) (vb x2 j) (sc x0 x1 j) (arun x0 x1 x2 j)
theorem mrun_succ (x0 : Vec F S2048x256 .bf16) (x1 : Vec F S8192x256 .bf16) (j : ℕ) :
    mrun x0 x1 (j + 1) = k0_pay6 (mrun x0 x1 j) (mx x0 x1 j) := rfl
theorem arun_succ (x0 : Vec F S2048x256 .bf16) (x1 : Vec F S8192x256 .bf16) (x2 : Vec F S1x8x144x1024 .bf16) (j : ℕ) :
    arun x0 x1 x2 (j + 1) = k0_pay7 (mrun x0 x1 j) (mx x0 x1 j) (vb x2 j) (sc x0 x1 j) (arun x0 x1 x2 j) := rfl
theorem mx_fold (x0 : Vec F S2048x256 .bf16) (x1 : Vec F S8192x256 .bf16) (j : ℕ) : k0_pay5 (k0_pay8 x0) (kb x1 j) = mx x0 x1 j := rfl
theorem sc_fold (x0 : Vec F S2048x256 .bf16) (x1 : Vec F S8192x256 .bf16) (j : ℕ) : k0_pay4 (k0_pay8 x0) (kb x1 j) = sc x0 x1 j := rfl
theorem pay15_eq (a : Vec F S2048x256 .bf16) (b : Vec F S1024x256 .bf16) : k0_pay15 a b = k0_pay4 (k0_pay8 a) b := rfl
theorem pay20_eq (a : Vec F S2048x256 .bf16) (b : Vec F S1024x256 .bf16) : k0_pay20 a b = k0_pay4 (k0_pay8 a) b := rfl
theorem pay16_eq (a : Vec F S2048x256 .bf16) (b : Vec F S1024x256 .bf16) : k0_pay16 a b = k0_pay5 (k0_pay8 a) b := rfl
theorem pay21_eq (a : Vec F S2048x256 .bf16) (b : Vec F S1024x256 .bf16) : k0_pay21 a b = k0_pay5 (k0_pay8 a) b := rfl
theorem pay17_eq (a b : FVec F S1x2048 .f32) : k0_pay17 a b = k0_pay6 b a := rfl
theorem pay18_eq (a b : FVec F S1x2048 .f32) (v : Vec F S1x1x144x1024 .bf16) (s : Vec F S1x1024x2048 .f32) (z : Vec F S1x144x2048 .f32) :
    k0_pay18 a b v s z = k0_pay7 b a v s z := rfl
theorem pay23_eq (a b : FVec F S1x2048 .f32) (v : Vec F S1x1x144x1024 .bf16) (s : Vec F S1x1024x2048 .f32) (z : Vec F S1x144x2048 .f32) :
    k0_pay23 a b v s z = k0_pay7 a b v s z := rfl
theorem pay1_eq (a b n : FVec F S1x2048 .f32) (v : Vec F S1x1x144x1024 .bf16) (s : Vec F S1x1024x2048 .f32) (z : Vec F S1x144x2048 .f32) :
    k0_pay1 (k0_pay24 v) (k0_pay26 a b n z) (k0_pay27 a b n s) = k0_pay7 (k0_pay6 a b) n v s z := rfl
/-- The block stored: the accumulator's value rows over its row of sums, transposed. -/
def outb (x0 : Vec F S2048x256 .bf16) (x1 : Vec F S8192x256 .bf16) (x2 : Vec F S1x8x144x1024 .bf16) : FVec F S2048x128 .bf16 :=
  k0_pay2 (fun y => arun x0 x1 x2 8 (ix3 0 128 (y 2))) (fun y => arun x0 x1 x2 8 (ix3 0 ⟨(y 1).val, Nat.lt_trans (y 1).isLt (by decide)⟩ (y 2)))

/-! ## Loads and stores of whole slots -/

section Loads

variable (arg4 : Memref sig .tc .vmem S8192x256 .bf16) (harg4 : arg4.IsWhole) (arg5 : Memref sig .tc .vmem S1x8x144x1024 .bf16) (harg5 : arg5.IsWhole)
  (arg7 : Memref sig .tc .vmem S1x144x2048 .f32) (arg8 : Memref sig .tc .vmem S2x1024x2048 .f32)

theorem load_kb (x1 : Vec F S8192x256 .bf16) (off : Fin 2 → ℕ) (inb : ∀ a, off a + S1024x256.size a ≤ S8192x256.size a) (j : ℕ)
    (h0 : off 0 = 1024 * j) (h1 : off 1 = 0) (hj : j < 8) :
    View.readAt (Elt F) arg4.view (Rect.unit (s := S8192x256) off S1024x256.size inb).toLoadRect (harg4.unread x1) = kb x1 j := by
  funext y
  rw [harg4.readAt_unread]
  unfold kb
  refine congrArg x1 (funext fun a => Fin.ext ?_)
  have hy := (y 0).isLt
  have hy' : (y 0).val < 1024 := hy
  match a with
  | ⟨0, _⟩ =>
    show off 0 + 1 * (y 0).val = (1024 * j + (y 0).val) % 8192
    rw [h0]; omega
  | ⟨1, _⟩ =>
    show off 1 + 1 * (y 1).val = (y 1).val
    rw [h1]; omega

theorem load_vb (x2 : Vec F S1x8x144x1024 .bf16) (off : Fin 4 → ℕ) (inb : ∀ a, off a + S1x1x144x1024.size a ≤ S1x8x144x1024.size a) (j : ℕ)
    (h0 : off 0 = 0) (h1 : off 1 = j) (h2 : off 2 = 0) (h3 : off 3 = 0) (hj : j < 8) :
    View.readAt (Elt F) arg5.view (Rect.unit (s := S1x8x144x1024) off S1x1x144x1024.size inb).toLoadRect (harg5.unread x2) = vb x2 j := by
  funext y
  rw [harg5.readAt_unread]
  unfold vb
  refine congrArg x2 (funext fun a => Fin.ext ?_)
  have hy0 : (y 0).val < 1 := (y 0).isLt
  have hy1 : (y 1).val < 1 := (y 1).isLt
  match a with
  | ⟨0, _⟩ =>
    show off 0 + 1 * (y 0).val = 0
    rw [h0]; omega
  | ⟨1, _⟩ =>
    show off 1 + 1 * (y 1).val = j % 8
    rw [h1]; omega
  | ⟨2, _⟩ =>
    show off 2 + 1 * (y 2).val = (y 2).val
    rw [h2]; omega
  | ⟨3, _⟩ =>
    show off 3 + 1 * (y 3).val = (y 3).val
    rw [h3]; omega

/-- The accumulator after its whole store. -/
theorem read_acc (f : BufTy.Contents (Elt F) arg7.view.ty) (w : Vec F S1x144x2048 .f32) (L : List (View.Piece (Elt F) S1x144x2048 .f32)) :
    arg7.view.read (Elt F) (arg7.view.writes (Elt F) f (⟨(Rect.unit (s := S1x144x2048) ![0, 0, 0] S1x144x2048.size inb_S1x144x2048_S1x144x2048_0_0_0), w⟩ :: L)) = w := by
  funext y
  exact View.read_writes_cons_unit_of_mem (v := arg7.view) (f := f) _ w L y y rfl (fun a => (Nat.zero_add _).symm.trans (by
    match a with
    | ⟨0, _⟩ => rfl
    | ⟨1, _⟩ => rfl
    | ⟨2, _⟩ => rfl))

theorem load_q (arg3 : Memref sig .tc .vmem S2048x256 .bf16) (harg3 : arg3.IsWhole) (x0 : Vec F S2048x256 .bf16) :
    View.readAt (Elt F) arg3.view (Rect.unit (s := S2048x256) ![0, 0] S2048x256.size inb_S2048x256_S2048x256_0_0).toLoadRect (harg3.unread x0) = x0 := by
  rw [View.readAt_full arg3.view _ _]
  exact harg3.read_unread x0

theorem load_acc (f : BufTy.Contents (Elt F) arg7.view.ty) :
    View.readAt (Elt F) arg7.view (Rect.unit (s := S1x144x2048) ![0, 0, 0] S1x144x2048.size inb_S1x144x2048_S1x144x2048_0_0_0).toLoadRect f = arg7.view.read (Elt F) f :=
  View.readAt_full arg7.view f _

/-- A slot's store, read back. -/
theorem load_slot0 (f : BufTy.Contents (Elt F) arg8.view.ty) (w : Vec F S1x1024x2048 .f32) (L : List (View.Piece (Elt F) S2x1024x2048 .f32)) :
    View.readAt (Elt F) arg8.view (Rect.unit (s := S2x1024x2048) ![0, 0, 0] S1x1024x2048.size inb_S2x1024x2048_S1x1024x2048_0_0_0).toLoadRect (arg8.view.writes (Elt F) f (⟨(Rect.unit (s := S2x1024x2048) ![0, 0, 0] S1x1024x2048.size inb_S2x1024x2048_S1x1024x2048_0_0_0), w⟩ :: L)) = w := by
  funext y
  rw [View.readAt_apply]
  exact View.read_writes_cons_unit_of_mem (v := arg8.view) (f := f) _ w L _ y rfl (fun a => by
    match a with
    | ⟨0, _⟩ => show 0 + 1 * (y 0).val = 0 + (y 0).val; omega
    | ⟨1, _⟩ => show 0 + 1 * (y 1).val = 0 + (y 1).val; omega
    | ⟨2, _⟩ => show 0 + 1 * (y 2).val = 0 + (y 2).val; omega)

theorem load_slot1 (f : BufTy.Contents (Elt F) arg8.view.ty) (w : Vec F S1x1024x2048 .f32) (L : List (View.Piece (Elt F) S2x1024x2048 .f32)) :
    View.readAt (Elt F) arg8.view (Rect.unit (s := S2x1024x2048) ![1, 0, 0] S1x1024x2048.size inb_S2x1024x2048_S1x1024x2048_1_0_0).toLoadRect (arg8.view.writes (Elt F) f (⟨(Rect.unit (s := S2x1024x2048) ![1, 0, 0] S1x1024x2048.size inb_S2x1024x2048_S1x1024x2048_1_0_0), w⟩ :: L)) = w := by
  funext y
  rw [View.readAt_apply]
  exact View.read_writes_cons_unit_of_mem (v := arg8.view) (f := f) _ w L _ y rfl (fun a => by
    match a with
    | ⟨0, _⟩ => show 1 + 1 * (y 0).val = 1 + (y 0).val; omega
    | ⟨1, _⟩ => show 0 + 1 * (y 1).val = 0 + (y 1).val; omega
    | ⟨2, _⟩ => show 0 + 1 * (y 2).val = 0 + (y 2).val; omega)

/-- The other slot's store is not read. -/
theorem load_slot1_skip (f : BufTy.Contents (Elt F) arg8.view.ty) (w : Vec F S1x1024x2048 .f32) (L : List (View.Piece (Elt F) S2x1024x2048 .f32)) :
    View.readAt (Elt F) arg8.view (Rect.unit (s := S2x1024x2048) ![1, 0, 0] S1x1024x2048.size inb_S2x1024x2048_S1x1024x2048_1_0_0).toLoadRect (arg8.view.writes (Elt F) f (⟨(Rect.unit (s := S2x1024x2048) ![0, 0, 0] S1x1024x2048.size inb_S2x1024x2048_S1x1024x2048_0_0_0), w⟩ :: L))
      = View.readAt (Elt F) arg8.view (Rect.unit (s := S2x1024x2048) ![1, 0, 0] S1x1024x2048.size inb_S2x1024x2048_S1x1024x2048_1_0_0).toLoadRect (arg8.view.writes (Elt F) f L) := by
  funext y
  rw [View.readAt_apply, View.readAt_apply]
  refine View.read_writes_cons_unit_of_not_mem (v := arg8.view) (f := f) _ w L _ rfl 0 (Or.inr ?_)
  show 0 + 1 ≤ 1 + 1 * (y 0).val
  omega

theorem load_slot0_skip (f : BufTy.Contents (Elt F) arg8.view.ty) (w : Vec F S1x1024x2048 .f32) (L : List (View.Piece (Elt F) S2x1024x2048 .f32)) :
    View.readAt (Elt F) arg8.view (Rect.unit (s := S2x1024x2048) ![0, 0, 0] S1x1024x2048.size inb_S2x1024x2048_S1x1024x2048_0_0_0).toLoadRect (arg8.view.writes (Elt F) f (⟨(Rect.unit (s := S2x1024x2048) ![1, 0, 0] S1x1024x2048.size inb_S2x1024x2048_S1x1024x2048_1_0_0), w⟩ :: L))
      = View.readAt (Elt F) arg8.view (Rect.unit (s := S2x1024x2048) ![0, 0, 0] S1x1024x2048.size inb_S2x1024x2048_S1x1024x2048_0_0_0).toLoadRect (arg8.view.writes (Elt F) f L) := by
  funext y
  rw [View.readAt_apply, View.readAt_apply]
  refine View.read_writes_cons_unit_of_not_mem (v := arg8.view) (f := f) _ w L _ rfl 0 (Or.inl ?_)
  have hy0 : (y 0).val < 1 := (y 0).isLt
  show 0 + 1 * (y 0).val < 1
  omega

/-- A slot stored at the bottom of the list reads the same whatever was there before. -/
theorem load_slot0_base (f g : BufTy.Contents (Elt F) arg8.view.ty) (w : Vec F S1x1024x2048 .f32) (L : List (View.Piece (Elt F) S2x1024x2048 .f32)) :
    View.readAt (Elt F) arg8.view (Rect.unit (s := S2x1024x2048) ![0, 0, 0] S1x1024x2048.size inb_S2x1024x2048_S1x1024x2048_0_0_0).toLoadRect (arg8.view.writes (Elt F) f (L ++ [⟨(Rect.unit (s := S2x1024x2048) ![0, 0, 0] S1x1024x2048.size inb_S2x1024x2048_S1x1024x2048_0_0_0), w⟩]))
      = View.readAt (Elt F) arg8.view (Rect.unit (s := S2x1024x2048) ![0, 0, 0] S1x1024x2048.size inb_S2x1024x2048_S1x1024x2048_0_0_0).toLoadRect (arg8.view.writes (Elt F) g (L ++ [⟨(Rect.unit (s := S2x1024x2048) ![0, 0, 0] S1x1024x2048.size inb_S2x1024x2048_S1x1024x2048_0_0_0), w⟩])) := by
  have h : ∀ j : (Rect.unit (s := S2x1024x2048) ![0, 0, 0] S1x1024x2048.size inb_S2x1024x2048_S1x1024x2048_0_0_0).toLoadRect.shape.Idx, ∃ p ∈ L ++ [(⟨(Rect.unit (s := S2x1024x2048) ![0, 0, 0] S1x1024x2048.size inb_S2x1024x2048_S1x1024x2048_0_0_0), w⟩ : View.Piece (Elt F) S2x1024x2048 .f32)], (Rect.unit (s := S2x1024x2048) ![0, 0, 0] S1x1024x2048.size inb_S2x1024x2048_S1x1024x2048_0_0_0).toLoadRect.idx j ∈ p.1.set := fun j =>
    ⟨_, List.mem_append_right _ List.mem_cons_self, (Rect.unit (s := S2x1024x2048) ![0, 0, 0] S1x1024x2048.size inb_S2x1024x2048_S1x1024x2048_0_0_0).toLoadRect.idx_mem j⟩
  rw [View.readAt_writes_of_cover _ _ _ _ h, View.readAt_writes_of_cover _ _ _ _ h]

/-- The output block after its whole store. -/
theorem read_out (arg6 : Memref sig .tc .vmem S2048x128 .bf16) (f : BufTy.Contents (Elt F) arg6.view.ty) (w : Vec F S2048x128 .bf16) (L : List (View.Piece (Elt F) S2048x128 .bf16)) :
    arg6.view.read (Elt F) (arg6.view.writes (Elt F) f (⟨(Rect.unit (s := S2048x128) ![0, 0] S2048x128.size inb_S2048x128_S2048x128_0_0), w⟩ :: L)) = w := by
  funext y
  exact View.read_writes_cons_unit_of_mem (v := arg6.view) (f := f) _ w L y y rfl (fun a => (Nat.zero_add _).symm.trans (by
    match a with
    | ⟨0, _⟩ => rfl
    | ⟨1, _⟩ => rfl))

/-- The accumulator's row of sums, and its value rows. -/
theorem load_sums (f : BufTy.Contents (Elt F) arg7.view.ty) (A : Vec F S1x144x2048 .f32) (h : arg7.view.read (Elt F) f = A) :
    View.readAt (Elt F) arg7.view (Rect.unit (s := S1x144x2048) ![0, 128, 0] S1x1x2048.size inb_S1x144x2048_S1x1x2048_0_128_0).toLoadRect f
      = fun y => A (ix3 0 128 (y 2)) := by
  funext y
  rw [View.readAt_apply, h]
  refine congrArg A (funext fun a => Fin.ext ?_)
  have hy0 : (y 0).val < 1 := (y 0).isLt
  have hy1 : (y 1).val < 1 := (y 1).isLt
  match a with
  | ⟨0, _⟩ => show 0 + 1 * (y 0).val = 0; omega
  | ⟨1, _⟩ => show 128 + 1 * (y 1).val = 128; omega
  | ⟨2, _⟩ => show 0 + 1 * (y 2).val = (y 2).val; omega

theorem load_values (f : BufTy.Contents (Elt F) arg7.view.ty) (A : Vec F S1x144x2048 .f32) (h : arg7.view.read (Elt F) f = A) :
    View.readAt (Elt F) arg7.view (Rect.unit (s := S1x144x2048) ![0, 0, 0] S1x128x2048.size inb_S1x144x2048_S1x128x2048_0_0_0).toLoadRect f
      = fun y => A (ix3 0 ⟨(y 1).val, Nat.lt_trans (y 1).isLt (by decide)⟩ (y 2)) := by
  funext y
  rw [View.readAt_apply, h]
  refine congrArg A (funext fun a => Fin.ext ?_)
  have hy0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

end Loads

/-! ## The loop over pairs of blocks -/

theorem off1_a (k : Fin k0_t1_loop.trips) : k0_off1 k 1#32 0 = 1024 * (2 * k.val + 1) :=
  (by decide +kernel : ∀ k : Fin k0_t1_loop.trips, k0_off1 k 1#32 0 = 1024 * (2 * k.val + 1)) k
theorem off1_a' (k : Fin k0_t1_loop.trips) : k0_off1 k 1#32 1 = 0 :=
  (by decide +kernel : ∀ k : Fin k0_t1_loop.trips, k0_off1 k 1#32 1 = 0) k
theorem off1_b (k : Fin k0_t1_loop.trips) : k0_off1 k 2#32 0 = 1024 * (2 * (k.val + 1)) :=
  (by decide +kernel : ∀ k : Fin k0_t1_loop.trips, k0_off1 k 2#32 0 = 1024 * (2 * (k.val + 1))) k
theorem off1_b' (k : Fin k0_t1_loop.trips) : k0_off1 k 2#32 1 = 0 :=
  (by decide +kernel : ∀ k : Fin k0_t1_loop.trips, k0_off1 k 2#32 1 = 0) k
theorem off2_k (k : Fin k0_t1_loop.trips) : k0_off2 k 0 = 0 ∧ k0_off2 k 1 = 2 * k.val ∧ k0_off2 k 2 = 0 ∧ k0_off2 k 3 = 0 :=
  (by decide +kernel : ∀ k : Fin k0_t1_loop.trips, k0_off2 k 0 = 0 ∧ k0_off2 k 1 = 2 * k.val ∧ k0_off2 k 2 = 0 ∧ k0_off2 k 3 = 0) k
theorem off3_k (k : Fin k0_t1_loop.trips) : k0_off3 k 0 = 0 ∧ k0_off3 k 1 = 2 * k.val + 1 ∧ k0_off3 k 2 = 0 ∧ k0_off3 k 3 = 0 :=
  (by decide +kernel : ∀ k : Fin k0_t1_loop.trips, k0_off3 k 0 = 0 ∧ k0_off3 k 1 = 2 * k.val + 1 ∧ k0_off3 k 2 = 0 ∧ k0_off3 k 3 = 0) k

section Loop

variable (𝒱 : Variants) (c : Dev nD) (bd : Option 𝒱.V) (i : grid0.Coords) (arg3 : Memref sig .tc .vmem S2048x256 .bf16) (harg3 : arg3.IsWhole) (arg4 : Memref sig .tc .vmem S8192x256 .bf16) (harg4 : arg4.IsWhole) (arg5 : Memref sig .tc .vmem S1x8x144x1024 .bf16) (harg5 : arg5.IsWhole) (arg6 : Memref sig .tc .vmem S2048x128 .bf16) (harg6 : arg6.IsWhole) (arg7 : Memref sig .tc .vmem S1x144x2048 .f32) (harg7 : arg7.IsWhole) (arg8 : Memref sig .tc .vmem S2x1024x2048 .f32) (harg8 : arg8.IsWhole) (x0 : Vec F S2048x256 .bf16) (x1 : Vec F S8192x256 .bf16) (x2 : Vec F S1x8x144x1024 .bf16)

/-- What one trip yields and stores. -/
theorem trip_eq (X4 : BufTy.Contents (Elt F) arg4.view.ty) (X5 : BufTy.Contents (Elt F) arg5.view.ty) (k : Fin k0_t1_loop.trips) (acc : FVec F S1x2048 .f32 × FVec F S1x2048 .f32)
    (f7 : BufTy.Contents (Elt F) arg7.view.ty) (f8 : BufTy.Contents (Elt F) arg8.view.ty) :
    ∃ (p q : FVec F S1x144x2048 .f32) (r s : FVec F S1x1024x2048 .f32) (z : FVec F S1x2048 .f32 × FVec F S1x2048 .f32) ,
      tripR_k0_t1 (F := F) 𝒱 c bd i arg3 harg3 arg4 harg4 arg5 harg5 arg6 harg6 arg7 harg7 arg8 harg8 x0 X4 X5 k acc f7 f8 = z
      ∧ (tripL_k0_t1 (F := F) 𝒱 c bd i arg3 harg3 arg4 harg4 arg5 harg5 arg6 harg6 arg7 harg7 arg8 harg8 x0 X4 X5 k acc f7 f8).1 = [⟨(Rect.unit (s := S1x144x2048) ![0, 0, 0] S1x144x2048.size inb_S1x144x2048_S1x144x2048_0_0_0), p⟩, ⟨(Rect.unit (s := S1x144x2048) ![0, 0, 0] S1x144x2048.size inb_S1x144x2048_S1x144x2048_0_0_0), q⟩]
      ∧ (tripL_k0_t1 (F := F) 𝒱 c bd i arg3 harg3 arg4 harg4 arg5 harg5 arg6 harg6 arg7 harg7 arg8 harg8 x0 X4 X5 k acc f7 f8).2 = [⟨(Rect.unit (s := S2x1024x2048) ![0, 0, 0] S1x1024x2048.size inb_S2x1024x2048_S1x1024x2048_0_0_0), r⟩, ⟨(Rect.unit (s := S2x1024x2048) ![1, 0, 0] S1x1024x2048.size inb_S2x1024x2048_S1x1024x2048_1_0_0), s⟩]
      ∧ s = k0_pay4 (k0_pay8 x0) (View.readAt (Elt F) arg4.view (Rect.unit (s := S8192x256) (k0_off1 k 1#32) S1024x256.size (k0_off1_inb k 0)).toLoadRect X4)
      ∧ r = k0_pay15 x0 (View.readAt (Elt F) arg4.view (Rect.unit (s := S8192x256) (k0_off1 k 2#32) S1024x256.size (k0_off1_inb k 1)).toLoadRect X4)
      ∧ q = k0_pay7 acc.1 acc.2 (View.readAt (Elt F) arg5.view (Rect.unit (s := S1x8x144x1024) (k0_off2 k) S1x1x144x1024.size (k0_off2_inb k)).toLoadRect X5)
          (View.readAt (Elt F) arg8.view (Rect.unit (s := S2x1024x2048) ![0, 0, 0] S1x1024x2048.size inb_S2x1024x2048_S1x1024x2048_0_0_0).toLoadRect f8) (View.readAt (Elt F) arg7.view (Rect.unit (s := S1x144x2048) ![0, 0, 0] S1x144x2048.size inb_S1x144x2048_S1x144x2048_0_0_0).toLoadRect f7)
      ∧ p = k0_pay18 (k0_pay5 (k0_pay8 x0) (View.readAt (Elt F) arg4.view (Rect.unit (s := S8192x256) (k0_off1 k 1#32) S1024x256.size (k0_off1_inb k 0)).toLoadRect X4))
          (k0_pay6 acc.1 acc.2) (View.readAt (Elt F) arg5.view (Rect.unit (s := S1x8x144x1024) (k0_off3 k) S1x1x144x1024.size (k0_off3_inb k)).toLoadRect X5)
          (arg8.view.readCov [⟨(Rect.unit (s := S2x1024x2048) ![0, 0, 0] S1x1024x2048.size inb_S2x1024x2048_S1x1024x2048_0_0_0), r⟩, ⟨(Rect.unit (s := S2x1024x2048) ![1, 0, 0] S1x1024x2048.size inb_S2x1024x2048_S1x1024x2048_1_0_0), s⟩] (Rect.unit (s := S2x1024x2048) ![1, 0, 0] S1x1024x2048.size inb_S2x1024x2048_S1x1024x2048_1_0_0).toLoadRect)
          (arg7.view.readCov [⟨(Rect.unit (s := S1x144x2048) ![0, 0, 0] S1x144x2048.size inb_S1x144x2048_S1x144x2048_0_0_0), q⟩] (Rect.unit (s := S1x144x2048) ![0, 0, 0] S1x144x2048.size inb_S1x144x2048_S1x144x2048_0_0_0).toLoadRect)
      ∧ z = (k0_pay17 (k0_pay5 (k0_pay8 x0) (View.readAt (Elt F) arg4.view (Rect.unit (s := S8192x256) (k0_off1 k 1#32) S1024x256.size (k0_off1_inb k 0)).toLoadRect X4)) (k0_pay6 acc.1 acc.2),
          k0_pay16 x0 (View.readAt (Elt F) arg4.view (Rect.unit (s := S8192x256) (k0_off1 k 2#32) S1024x256.size (k0_off1_inb k 1)).toLoadRect X4)) := by
  unfold tripR_k0_t1 tripL_k0_t1 trip_k0_t1
  exact ⟨_, _, _, _, _, rfl, rfl, rfl, rfl, rfl, rfl, rfl, rfl⟩

/-- The state before trip `k`: the running maximum and the next block's, the accumulator, the next block's scores. -/
def LInv (k : ℕ) (a : FVec F S1x2048 .f32 × FVec F S1x2048 .f32) (f7 : BufTy.Contents (Elt F) arg7.view.ty) (f8 : BufTy.Contents (Elt F) arg8.view.ty) : Prop :=
  a = (mrun x0 x1 (2 * k), mx x0 x1 (2 * k)) ∧ arg7.view.read (Elt F) f7 = arun x0 x1 x2 (2 * k)
    ∧ View.readAt (Elt F) arg8.view (Rect.unit (s := S2x1024x2048) ![0, 0, 0] S1x1024x2048.size inb_S2x1024x2048_S1x1024x2048_0_0_0).toLoadRect f8 = sc x0 x1 (2 * k)

theorem linv_step (k : Fin k0_t1_loop.trips) (acc : FVec F S1x2048 .f32 × FVec F S1x2048 .f32)
    (f7 : BufTy.Contents (Elt F) arg7.view.ty) (f8 : BufTy.Contents (Elt F) arg8.view.ty) (h : LInv arg7 arg8 x0 x1 x2 k.val acc f7 f8) :
    LInv arg7 arg8 x0 x1 x2 (k.val + 1) (tripR_k0_t1 (F := F) 𝒱 c bd i arg3 harg3 arg4 harg4 arg5 harg5 arg6 harg6 arg7 harg7 arg8 harg8 x0 (harg4.unread x1) (harg5.unread x2) k acc f7 f8)
      (arg7.view.writes (Elt F) f7 (tripL_k0_t1 (F := F) 𝒱 c bd i arg3 harg3 arg4 harg4 arg5 harg5 arg6 harg6 arg7 harg7 arg8 harg8 x0 (harg4.unread x1) (harg5.unread x2) k acc f7 f8).1)
      (arg8.view.writes (Elt F) f8 (tripL_k0_t1 (F := F) 𝒱 c bd i arg3 harg3 arg4 harg4 arg5 harg5 arg6 harg6 arg7 harg7 arg8 harg8 x0 (harg4.unread x1) (harg5.unread x2) k acc f7 f8).2) := by
  have hk : k.val < 3 := Nat.lt_of_lt_of_le k.isLt k0_t1_abs.2.1
  obtain ⟨hacc, h7, h8⟩ := h
  obtain ⟨p, q, r, s, z, ez, e7, e8, es, er, eq, ep, ezz⟩ := trip_eq 𝒱 c bd i arg3 harg3 arg4 harg4 arg5 harg5 arg6 harg6 arg7 harg7 arg8 harg8 x0 (harg4.unread x1) (harg5.unread x2) k acc f7 f8
  have o2 := off2_k k
  have o3 := off3_k k
  rw [load_kb arg4 harg4 x1 _ _ (2 * k.val + 1) (off1_a k) (off1_a' k) (by omega)] at es ep ezz
  rw [load_kb arg4 harg4 x1 _ _ (2 * (k.val + 1)) (off1_b k) (off1_b' k) (by omega)] at er ezz
  rw [load_vb arg5 harg5 x2 _ _ (2 * k.val) o2.1 o2.2.1 o2.2.2.1 o2.2.2.2 (by omega), h8, load_acc, h7, hacc] at eq
  have eq' : q = arun x0 x1 x2 (2 * k.val + 1) := by
    rw [arun_succ, eq]
  have es' : s = sc x0 x1 (2 * k.val + 1) := es
  rw [load_vb arg5 harg5 x2 _ _ (2 * k.val + 1) o3.1 o3.2.1 o3.2.2.1 o3.2.2.2 (by omega), hacc] at ep
  unfold View.readCov at ep
  rw [load_slot1_skip, load_slot1, load_acc, read_acc, eq', es'] at ep
  have e2 : 2 * (k.val + 1) = 2 * k.val + 1 + 1 := by omega
  unfold LInv
  rw [e2] at er ezz ⊢
  refine ⟨?_, ?_, ?_⟩
  · rw [ez, ezz, hacc, pay17_eq, pay16_eq, mx_fold, mx_fold, mrun_succ x0 x1 (2 * k.val + 1), mrun_succ x0 x1 (2 * k.val)]
  · rw [e7, read_acc, ep, pay18_eq, mx_fold, arun_succ x0 x1 x2 (2 * k.val + 1), mrun_succ x0 x1 (2 * k.val)]
  · rw [e8, load_slot0, er, pay15_eq, sc_fold]

/-- The state after the trips before `k`. -/
theorem linv_st (G7 : BufTy.Contents (Elt F) arg7.view.ty) (G8 : BufTy.Contents (Elt F) arg8.view.ty) (init : FVec F S1x2048 .f32 × FVec F S1x2048 .f32)
    (h : LInv arg7 arg8 x0 x1 x2 0 init G7 G8) : ∀ k : ℕ, k ≤ k0_t1_loop.trips →
    LInv arg7 arg8 x0 x1 x2 k (st_k0_t1 (F := F) 𝒱 c bd i arg3 harg3 arg4 harg4 arg5 harg5 arg6 harg6 arg7 harg7 arg8 harg8 x0 (harg4.unread x1) (harg5.unread x2) G7 G8 init k).1
      (arg7.view.writes (Elt F) G7 (st_k0_t1 (F := F) 𝒱 c bd i arg3 harg3 arg4 harg4 arg5 harg5 arg6 harg6 arg7 harg7 arg8 harg8 x0 (harg4.unread x1) (harg5.unread x2) G7 G8 init k).2.1)
      (arg8.view.writes (Elt F) G8 (st_k0_t1 (F := F) 𝒱 c bd i arg3 harg3 arg4 harg4 arg5 harg5 arg6 harg6 arg7 harg7 arg8 harg8 x0 (harg4.unread x1) (harg5.unread x2) G7 G8 init k).2.2)
  | 0, _ => h
  | k + 1, hk => by
    have ih := linv_st G7 G8 init h k (Nat.le_of_succ_le hk)
    have e := st_k0_t1_succ (F := F) 𝒱 c bd i arg3 harg3 arg4 harg4 arg5 harg5 arg6 harg6 arg7 harg7 arg8 harg8 x0 (harg4.unread x1) (harg5.unread x2) G7 G8 init ⟨k, hk⟩
    dsimp only at e
    rw [e, View.writes_append, View.writes_append]
    exact linv_step 𝒱 c bd i arg3 harg3 arg4 harg4 arg5 harg5 arg6 harg6 arg7 harg7 arg8 harg8 x0 x1 x2 ⟨k, hk⟩ _ _ _ ih

theorem trips_eq : k0_t1_loop.trips = 3 := by
  first
  | rfl
  | exact of_decide_eq_true (by decide +kernel)
  | (unfold Scf.Loop.trips; decide +kernel)
  | (show Scf.trips _ _ _ = 3; decide +kernel)

end Loop

/-! ## The kernel on one block -/

theorem kernel_run (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S1x8x144x1024 .bf16) (harg5 : arg5.IsWhole) (arg6 : Memref sig .tc .vmem S2048x128 .bf16) (harg6 : arg6.IsWhole) (arg7 : Memref sig .tc .vmem S1x144x2048 .f32) (harg7 : arg7.IsWhole) (arg8 : Memref sig .tc .vmem S2x1024x2048 .f32) (harg8 : arg8.IsWhole) (x0 : Vec F S2048x256 .bf16) (x1 : Vec F S8192x256 .bf16) (x2 : Vec F S1x8x144x1024 .bf16)
    (f6 : BufTy.Contents (Elt F) arg6.view.ty) (f7 : BufTy.Contents (Elt F) arg7.view.ty) (f8 : BufTy.Contents (Elt F) arg8.view.ty) (E : Set ℕ) :
    iprop((arg3.view.loc (c : Thread nD τ) ↦[arg3.view.set]{fullShare} harg3.unread x0) ∗ (arg4.view.loc (c : Thread nD τ) ↦[arg4.view.set]{fullShare} harg4.unread x1)
      ∗ (arg5.view.loc (c : Thread nD τ) ↦[arg5.view.set]{fullShare} harg5.unread x2) ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8))
    ⊢ wp frame (wpE (defs₀ (F := F)) Variants.none (c : Thread nD τ) none) E (cc0_mla_attn (F := F) i arg3 harg3 arg4 harg4 arg5 harg5 arg6 harg6 arg7 harg7 arg8 harg8) (fun _ : PUnit =>
      (iprop((arg3.view.loc (c : Thread nD τ) ↦[arg3.view.set]{fullShare} harg3.unread x0) ∗ (arg4.view.loc (c : Thread nD τ) ↦[arg4.view.set]{fullShare} harg4.unread x1)
      ∗ (arg5.view.loc (c : Thread nD τ) ↦[arg5.view.set]{fullShare} harg5.unread x2) ∗ (∃ g, (arg6.view.loc (c : Thread nD τ) ↦[arg6.view.set]{fullShare} g) ∗ ⌜arg6.view.read (Elt F) g = outb x0 x1 x2⌝)
      ∗ (∃ g, arg7.view.loc (c : Thread nD τ) ↦[arg7.view.set]{fullShare} g) ∗ (∃ g, arg8.view.loc (c : Thread nD τ) ↦[arg8.view.set]{fullShare} g)) : sProp 𝕄)) := by
  rw [cc0_mla_attn_eq_skeleton]
  unfold cc0_mla_attn_skel
  iintro ⟨H3, H4, H5, H6, H7, H8⟩
  sl_exec
  sl_step
  isplitl [H3]; · iexact H3
  isplitl [H4]; · iexact H4
  isplitl [H5]; · iexact H5
  isplitl [H6]
  · iexists _
    isplitl [H6]; · iexact H6
    ipureintro
    delta kernel_run.sl.v69 kernel_run.sl.v71 kernel_run.sl.H7_2
    have hw : k0_pay1 (kernel_run.sl.r_3 arg5 harg5 x2) (kernel_run.sl.r_4 c i arg3 harg3 arg4 harg4 arg5 harg5 arg6 harg6 arg7 harg7 arg8 harg8 x0 x1 x2 f8) (kernel_run.sl.r_5 c i arg3 harg3 arg4 harg4 arg5 harg5 arg6 harg6 arg7 harg7 arg8 harg8 x0 x1 x2 f8) = arun x0 x1 x2 8 := by
      clear f6 f7
      have h := linv_st (F := F) Variants.none c none i arg3 harg3 arg4 harg4 arg5 harg5 arg6 harg6 arg7 harg7 arg8 harg8 x0 x1 x2 (arg7.view.writes (Elt F) arg7.view.junk kernel_run.sl.H7_1)
        (arg8.view.writes (Elt F) f8 [⟨(Rect.unit (s := S2x1024x2048) ![0, 0, 0] S1x1024x2048.size inb_S2x1024x2048_S1x1024x2048_0_0_0), k0_pay12 x0 (kb x1 0)⟩]) (k0_pay10, k0_pay13 x0 (kb x1 0))
        ⟨rfl, by delta kernel_run.sl.H7_1; rw [read_acc]; rfl, by rw [load_slot0]; rfl⟩ k0_t1_loop.trips le_rfl
      rw [trips_eq] at h
      obtain ⟨ha, h7, h8⟩ := h
      have e6 : 2 * 3 = 6 := rfl
      rw [e6] at ha h7 h8
      have ha1 := congrArg Prod.fst ha
      have ha2 := congrArg Prod.snd ha
      dsimp only at ha1 ha2
      delta kernel_run.sl.r_3 kernel_run.sl.r_4 kernel_run.sl.r_5 kernel_run.sl.r kernel_run.sl.r_1 kernel_run.sl.r_2 kernel_run.sl.v54 kernel_run.sl.v59 kernel_run.sl.H7_1_1 kernel_run.sl.H8_1 kernel_run.sl.v34 kernel_run.sl.v39
      rw [load_q, load_kb arg4 harg4 x1 _ _ 0 rfl rfl (by decide), load_kb arg4 harg4 x1 _ _ 7 rfl rfl (by decide), load_vb arg5 harg5 x2 _ _ 7 rfl rfl rfl rfl (by decide),
        load_vb arg5 harg5 x2 _ _ 6 rfl rfl rfl rfl (by decide), show Scf.trips k0_t1_loop.lb k0_t1_loop.ub k0_t1_loop.st = 3 from trips_eq, ha1, ha2, pay1_eq, pay23_eq, pay21_eq, pay20_eq, mx_fold, sc_fold]
      unfold View.readCov
      rw [load_acc, read_acc, load_slot1]
      rw [load_slot0_skip, load_slot0_base arg8 _ f8, View.writes_append, h8, load_acc, View.writes_append, h7, arun_succ x0 x1 x2 7, arun_succ x0 x1 x2 6, mrun_succ x0 x1 6]
    rw [hw, read_out]
    unfold View.readCov
    rw [load_sums arg7 _ _ (read_acc arg7 _ _ _), load_values arg7 _ _ (read_acc arg7 _ _ _)]
    rfl
  isplitl [H7]; · iexists _; iexact H7
  iexists _; iexact H8

section Owns

variable (c : Dev nD) (i : grid0.Coords) (arg3 : Memref sig .tc .vmem S2048x256 .bf16) (harg3 : arg3.IsWhole) (arg4 : Memref sig .tc .vmem S8192x256 .bf16) (harg4 : arg4.IsWhole) (arg5 : Memref sig .tc .vmem S1x8x144x1024 .bf16) (harg5 : arg5.IsWhole) (arg6 : Memref sig .tc .vmem S2048x128 .bf16) (harg6 : arg6.IsWhole) (arg7 : Memref sig .tc .vmem S1x144x2048 .f32) (harg7 : arg7.IsWhole) (arg8 : Memref sig .tc .vmem S2x1024x2048 .f32) (harg8 : arg8.IsWhole) (x0 : Vec F S2048x256 .bf16) (x1 : Vec F S8192x256 .bf16) (x2 : Vec F S1x8x144x1024 .bf16)

/-- The kernel on one block: from the three input blocks it stores `outb` of them, whatever the two scratch buffers hold. -/
theorem kernel_block (Q : PUnit → sProp 𝕄) :
    iprop(owns (c : Thread nD τ) arg3 fullShare x0 ∗ owns (c : Thread nD τ) arg4 fullShare x1 ∗ owns (c : Thread nD τ) arg5 fullShare x2
      ∗ (∃ d, owns (c : Thread nD τ) arg6 fullShare d) ∗ (∃ d, owns (c : Thread nD τ) arg7 fullShare d) ∗ (∃ d, owns (c : Thread nD τ) arg8 fullShare d)
      ∗ ((owns (c : Thread nD τ) arg3 fullShare x0 ∗ owns (c : Thread nD τ) arg4 fullShare x1 ∗ owns (c : Thread nD τ) arg5 fullShare x2
        ∗ owns (c : Thread nD τ) arg6 fullShare (outb x0 x1 x2) ∗ (∃ d, owns (c : Thread nD τ) arg7 fullShare d) ∗ (∃ d, owns (c : Thread nD τ) arg8 fullShare d)) -∗ Q ⟨⟩))
    ⊢ wp frame (wpE (defs₀ (F := F)) Variants.none (c : Thread nD τ) none) Set.univ (cc0_mla_attn (F := F) i arg3 harg3 arg4 harg4 arg5 harg5 arg6 harg6 arg7 harg7 arg8 harg8) Q := by
  unfold owns
  iintro ⟨⟨%f3, %h3, H3⟩, ⟨%f4, %h4, H4⟩, ⟨%f5, %h5, H5⟩, ⟨%d6, %f6, %h6, H6⟩, ⟨%d7, %f7, %h7, H7⟩, ⟨%d8, %f8, %h8, H8⟩, HQ⟩
  obtain rfl := harg3.eq_unread h3; obtain rfl := harg4.eq_unread h4; obtain rfl := harg5.eq_unread h5
  iapply (wp_wand_r Idealize.ShloMosaic.frame (wpE (defs₀ (F := F)) Variants.none (c : Thread nD τ) none) Set.univ)
  isplitl [H3 H4 H5 H6 H7 H8]
  · iapply (kernel_run c i arg3 harg3 arg4 harg4 arg5 harg5 arg6 harg6 arg7 harg7 arg8 harg8 x0 x1 x2 f6 f7 f8 Set.univ)
    isplitl [H3]; · iexact H3
    isplitl [H4]; · iexact H4
    isplitl [H5]; · iexact H5
    isplitl [H6]; · iexact H6
    isplitl [H7]; · iexact H7
    iexact H8
  · iintro %_ ⟨H3, H4, H5, ⟨%g6, H6, %e6⟩, ⟨%g7, H7⟩, ⟨%g8, H8⟩⟩
    iapply HQ
    isplitl [H3]
    · iexists _; isplitr
      swap; · iexact H3
      ipureintro; exact harg3.read_unread x0
    isplitl [H4]
    · iexists _; isplitr
      swap; · iexact H4
      ipureintro; exact harg4.read_unread x1
    isplitl [H5]
    · iexists _; isplitr
      swap; · iexact H5
      ipureintro; exact harg5.read_unread x2
    isplitl [H6]
    · iexists _; isplitr
      swap; · iexact H6
      ipureintro; exact e6
    isplitl [H7]
    · iexists _; iexists _; isplitr
      swap; · iexact H7
      ipureintro; rfl
    iexists _; iexists _; isplitr
    swap; · iexact H8
    ipureintro; rfl

end Owns

/-! ## The pipeline's data and its run -/

variable (m : (ℓ : Loc nD τ sig) → Buf (Elt F) ℓ) (ρ : Dev nD → PrngReg)

theorem live_in0 (t : Fin cfg0.N) : cfg0.idle 0 (grid0.coords t) = false := rfl
theorem live_in1 (t : Fin cfg0.N) : cfg0.idle 1 (grid0.coords t) = false := rfl
theorem live_in2 (t : Fin cfg0.N) : cfg0.idle 2 (grid0.coords t) = false := rfl
theorem live_in3 (t : Fin cfg0.N) : cfg0.idle 3 (grid0.coords t) = false := rfl

abbrev ms0_0 (t : Fin cfg0.N) : Memref sig .tc .vmem S2048x256 .bf16 := win0_0.stage (cfg0.slots t 0)
abbrev ms0_1 (t : Fin cfg0.N) : Memref sig .tc .vmem S8192x256 .bf16 := win0_1.stage (cfg0.slots t 1)
abbrev ms0_2 (t : Fin cfg0.N) : Memref sig .tc .vmem S1x8x144x1024 .bf16 := win0_2.stage (cfg0.slots t 2)
abbrev ms0_3 (t : Fin cfg0.N) : Memref sig .tc .vmem S2048x128 .bf16 := win0_3.stage (cfg0.slots t 3)

/-- The pipeline's data: the arrays as the region finds them; after a point each input's buffer at its block and the
    output's at `outb` of the three blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outb (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outb (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_in0 t], after0_0]
  rw [show (dats m 0 c).leavesExact 1 t = owns (c : Thread nD τ) (ms0_1 t) fullShare ((dats m 0 c).after 1 t) from by
    unfold Dat.leavesExact; rw [live_in1 t], after0_1]
  rw [show (dats m 0 c).leavesExact 2 t = owns (c : Thread nD τ) (ms0_2 t) fullShare ((dats m 0 c).after 2 t) from by
    unfold Dat.leavesExact; rw [live_in2 t], after0_2]
  rw [show (dats m 0 c).leavesExact 3 t = owns (c : Thread nD τ) (ms0_3 t) fullShare ((dats m 0 c).after 3 t) from by
    unfold Dat.leavesExact; rw [live_in3 t], after0_3]
  unfold Pipeline.ΦA
  rw [scopedRest0_eq]
  iintro ⟨⟨⟨⟨%s0, S0⟩, ⟨%s1, S1⟩⟩, Hr⟩, Ho, ⟨%d0, H0⟩, ⟨%d1, H1⟩, ⟨%d2, H2⟩, ⟨%d3, H3⟩⟩
  iapply (kernel_block c (grid0.coords t) (ms0_0 t) (hstage0_0 ((cfg0.slots t 0).cast nbuf0_0)) (ms0_1 t) (hstage0_1 ((cfg0.slots t 1).cast nbuf0_1))
    (ms0_2 t) (hstage0_2 ((cfg0.slots t 2).cast nbuf0_2)) (ms0_3 t) (hstage0_3 ((cfg0.slots t 3).cast nbuf0_3)) (Memref.whole cc0_scratch0) (Memref.isWhole_whole _)
    (Memref.whole cc0_scratch1) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [S0]
  · iexists s0
    irw [owns_whole]
    iexact S0
  isplitl [S1]
  · iexists s1
    irw [owns_whole]
    iexact S1
  iintro ⟨H0, H1, H2, H3, ⟨%e0, S0⟩, ⟨%e1, S1⟩⟩
  isplitl [S0 S1 Hr]
  · isplitl [S0 S1]
    · isplitl [S0]
      · iexists e0
        irw [← owns_whole]
        iexact S0
      · iexists e1
        irw [← owns_whole]
        iexact S1
    · iexact Hr
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every final state has the pipeline's arrays at what the data says, every other buffer as it was, and every
    semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.MlaIdeal.Gen

end
-- ==== Proof.Softmax.lean ====
module

public import Idealize.ShloMosaic.Lib.Pipeline.ValueKit
public import Idealize.ShloMosaic.Lib.Pointwise

@[expose] public section

noncomputable section

open Idealize.ShloMosaic

namespace Cert.Softmax

/-- A product with a nonnegative real runs through a sum. -/
theorem sum_mul {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- The maximum of a real and of a real or minus infinity is a real. -/
theorem max_real (a : ℝ) (x : EReal) (hx : x = ⊥ ∨ ∃ r : ℝ, x = r) : ∃ r : ℝ, max (a : EReal) x = r := by
  rcases hx with rfl | ⟨r, rfl⟩
  · exact ⟨a, by simp⟩
  · exact ⟨max a r, (EReal.coe_strictMono.monotone.map_max).symm⟩

theorem fold_max {ι : Type} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => left; simp
  | insert a s ha ih =>
    right
    rw [Finset.fold_insert ha]
    exact max_real _ _ ih

/-- The maximum of one real at least is a real. -/
theorem fold_max_real {ι : Type} [Fintype ι] [Nonempty ι] (f : ι → ℝ) :
    ∃ r : ℝ, Finset.univ.fold max (⊥ : EReal) (fun i => (f i : EReal)) = r := by
  classical
  obtain ⟨i⟩ := ‹Nonempty ι›
  rw [← Finset.insert_erase (Finset.mem_univ i), Finset.fold_insert (Finset.notMem_erase _ _)]
  exact max_real _ _ (fold_max _ _)

theorem exp2_sub (a b : ℝ) : Ideal.exp2 ((a : EReal) - (b : EReal)) = ((2 : ℝ) ^ a * (2 : ℝ) ^ (-b) : ℝ) := by
  rw [← EReal.coe_sub, Ideal.exp2_coe, sub_eq_add_neg, ← Real.rpow_add (by positivity : (0 : ℝ) < 2)]
  rfl

theorem exp_sub (a b : ℝ) : Ideal.exp ((a : EReal) - (b : EReal)) = (Real.exp a * Real.exp (-b) : ℝ) := by
  rw [← EReal.coe_sub, Ideal.exp_coe, sub_eq_add_neg, Real.exp_add]

theorem two_pow_log (r : ℝ) : (2 : ℝ) ^ (r * (Real.log 2)⁻¹) = Real.exp r := by
  rw [Real.rpow_def_of_pos (by positivity), mul_comm (Real.log 2), mul_assoc, inv_mul_cancel₀, mul_one]
  exact (Real.log_pos (by simp)).ne'

theorem div_real (x : EReal) (c : ℝ) (hc : 0 < c) : Ideal.div x (c : EReal) = x * ((c⁻¹ : ℝ) : EReal) := by
  unfold Ideal.div
  rw [if_neg (by simpa using hc.ne'), EReal.coe_inv]

/-- The weight of a key: the exponential of its score by the sum over the keys. -/
def weight (r : Fin 8192 → ℝ) (t : Fin 8192) : ℝ := Real.exp (r t) * (∑ u, Real.exp (r u))⁻¹

/-- A shift of the scores changes no weight. -/
theorem reference_weight (r : Fin 8192 → ℝ) (b : ℝ) (t : Fin 8192) :
    Ideal.div (Ideal.exp ((r t : EReal) - (b : EReal))) (∑ u, Ideal.exp ((r u : EReal) - (b : EReal))) = (weight r t : ℝ) := by
  have h : ∑ u, Ideal.exp ((r u : EReal) - (b : EReal)) = ((∑ u, Real.exp (r u) * Real.exp (-b) : ℝ) : EReal) := by
    rw [coe_sum]
    exact Finset.sum_congr rfl fun u _ => exp_sub _ _
  have hp : (0 : ℝ) < ∑ u, Real.exp (r u) := Finset.sum_pos (fun u _ => Real.exp_pos _) ⟨0, Finset.mem_univ _⟩
  have hq : (0 : ℝ) < ∑ u, Real.exp (r u) * Real.exp (-b) :=
    Finset.sum_pos (fun u _ => mul_pos (Real.exp_pos _) (Real.exp_pos _)) ⟨0, Finset.mem_univ _⟩
  rw [h, div_real _ _ hq, exp_sub, ← EReal.coe_mul]
  refine congrArg (fun x : ℝ => (x : EReal)) ?_
  unfold weight
  rw [← Finset.sum_mul, mul_inv]
  have := (Real.exp_pos (-b)).ne'
  field_simp

/-- The blocks of 1024 keys, each summed, are all keys. -/
theorem sum_blocks {M : Type} [AddCommMonoid M] (f : ℕ → M) :
    ∑ i ∈ Finset.range 8, ∑ a : Fin 1024, f (1024 * i + a.val) = ∑ t : Fin 8192, f t.val := by
  rw [Finset.sum_range fun i => ∑ a : Fin 1024, f (1024 * i + a.val), ← Fintype.sum_prod_type']
  refine Fintype.sum_equiv (finProdFinEquiv (m := 8) (n := 1024)) _ _ fun x => ?_
  show _ = f (x.2.val + 1024 * x.1.val)
  rw [Nat.add_comm]

/-- A running sum that is scaled, whenever the running maximum moves, to the new maximum, is at every step
    the sum over the keys so far at the present maximum. -/
theorem running (s : ℕ → ℝ) (w : ℕ → EReal) (m A : ℕ → EReal)
    (hm : ∀ j, j < 8 → ∃ r : ℝ, m (j + 1) = r) (h0 : A 0 = 0)
    (hs : ∀ j, j < 8 → A (j + 1) = A j * Ideal.exp2 (m j - m (j + 1))
      + ∑ a : Fin 1024, w (1024 * j + a.val) * Ideal.exp2 ((s (1024 * j + a.val) : EReal) - m (j + 1))) :
    ∀ j, j ≤ 8 → A j = ∑ i ∈ Finset.range j, ∑ a : Fin 1024,
      w (1024 * i + a.val) * Ideal.exp2 ((s (1024 * i + a.val) : EReal) - m j) := by
  intro j
  induction j with
  | zero => intro _; rw [h0]; simp
  | succ j ih =>
    intro hj
    rw [hs j (by omega), Finset.sum_range_succ, ih (by omega)]
    congr 1
    rcases Nat.eq_zero_or_pos j with rfl | hp
    · simp
    obtain ⟨k, rfl⟩ : ∃ k, j = k + 1 := ⟨j - 1, by omega⟩
    obtain ⟨r, hr⟩ := hm k (by omega)
    obtain ⟨r', hr'⟩ := hm (k + 1) (by omega)
    rw [hr, hr', exp2_sub, sum_mul _ _ _ (by positivity)]
    refine Finset.sum_congr rfl fun i _ => ?_
    rw [sum_mul _ _ _ (by positivity)]
    refine Finset.sum_congr rfl fun a _ => ?_
    rw [mul_assoc, exp2_sub, exp2_sub, ← EReal.coe_mul]
    congr 2
    have h : (2 : ℝ) ^ (-r) * (2 : ℝ) ^ r = 1 := by
      rw [← Real.rpow_add (by positivity), neg_add_cancel, Real.rpow_zero]
    calc _ = (2 : ℝ) ^ s (1024 * i + a.val) * ((2 : ℝ) ^ (-r) * (2 : ℝ) ^ r) * (2 : ℝ) ^ (-r') := by ring
      _ = _ := by rw [h, mul_one]

/-- The sum over the keys at a shift of the scores, by the sum of the exponentials at this shift, weighs the keys. -/
theorem quotient (r s : ℕ → ℝ) (w : ℕ → EReal) (b : ℝ) (h : ∀ t, s t = r t * (Real.log 2)⁻¹) :
    (∑ i ∈ Finset.range 8, ∑ a : Fin 1024, w (1024 * i + a.val) * Ideal.exp2 ((s (1024 * i + a.val) : EReal) - b))
      * Ideal.div 1 (∑ i ∈ Finset.range 8, ∑ a : Fin 1024, 1 * Ideal.exp2 ((s (1024 * i + a.val) : EReal) - b))
      = ∑ t : Fin 8192, w t.val * ((weight (fun u => r u.val) t : ℝ) : EReal) := by
  rw [sum_blocks fun t => w t * Ideal.exp2 ((s t : EReal) - b), sum_blocks fun t => 1 * Ideal.exp2 ((s t : EReal) - b)]
  have e : ∀ t, Ideal.exp2 ((s t : EReal) - b) = ((Real.exp (r t) * (2 : ℝ) ^ (-b) : ℝ) : EReal) := fun t => by
    rw [exp2_sub, h, two_pow_log]
  have hb : (0 : ℝ) < (2 : ℝ) ^ (-b) := by positivity
  have hq : (0 : ℝ) < ∑ t : Fin 8192, Real.exp (r t.val) * (2 : ℝ) ^ (-b) :=
    Finset.sum_pos (fun u _ => mul_pos (Real.exp_pos _) hb) ⟨0, Finset.mem_univ _⟩
  have hl : ∑ t : Fin 8192, 1 * Ideal.exp2 ((s t.val : EReal) - b) = ((∑ t : Fin 8192, Real.exp (r t.val) * (2 : ℝ) ^ (-b) : ℝ) : EReal) := by
    rw [coe_sum]
    exact Finset.sum_congr rfl fun t _ => by rw [one_mul, e]
  rw [hl, div_real _ _ hq, one_mul, sum_mul _ _ _ (inv_pos.2 hq).le]
  refine Finset.sum_congr rfl fun t _ => ?_
  rw [mul_assoc, e, ← EReal.coe_mul]
  refine congrArg (fun x : ℝ => w t.val * (x : EReal)) ?_
  unfold weight
  rw [← Finset.sum_mul, mul_inv]
  field_simp

end Cert.Softmax

end
-- ==== Proof.MlaValue.lean ====
module

public import proofs.«01_k».proof.Proof.MlaIdealBody
public import proofs.«01_k».proof.Proof.Softmax
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlaIdeal.Attn

open Cert.MlaIdeal Cert.MlaIdeal.Gen

variable (x0 : Vec Ideal S2048x256 .bf16) (x1 : Vec Ideal S8192x256 .bf16) (x2 : Vec Ideal S1x8x144x1024 .bf16)

theorem minus_infinity : Ideal.ofBits .f32 0xFF800000#32 = (⊥ : EReal) := by
  simp [Ideal.ofBits, Ideal.ieee]

theorem pay4_at (q : FVec Ideal S2048x256 .bf16) (k : Vec Ideal S1024x256 .bf16) (a : Fin 1024) (b : Fin 2048) :
    k0_pay4 q k (ix3 (0 : Fin 1) a b) = ∑ d : Fin 256, k (ix2 a d) * q (ix2 b d) := by
  pointwise [k0_pay4, k0_pay3]

theorem pay5_at (q : FVec Ideal S2048x256 .bf16) (k : Vec Ideal S1024x256 .bf16) (b : Fin 2048) :
    k0_pay5 q k (ix2 (0 : Fin 1) b) = Finset.univ.fold max (⊥ : EReal) fun a : Fin 1024 => ∑ d : Fin 256, k (ix2 a d) * q (ix2 b d) := by
  pointwise [k0_pay5, k0_pay3]
  exact congrArg (fun z : EReal => Finset.univ.fold max z _) minus_infinity

theorem pay6_at (m n : FVec Ideal S1x2048 .f32) (b : Fin 2048) :
    k0_pay6 m n (ix2 (0 : Fin 1) b) = max (m (ix2 (0 : Fin 1) b)) (n (ix2 (0 : Fin 1) b)) := by
  pointwise [k0_pay6]

theorem pay7_at (m n : FVec Ideal S1x2048 .f32) (v : Vec Ideal S1x1x144x1024 .bf16) (s : FVec Ideal S1x1024x2048 .f32)
    (A : FVec Ideal S1x144x2048 .f32) (e : Fin 144) (b : Fin 2048) :
    k0_pay7 m n v s A (ix3 (0 : Fin 1) e b) = A (ix3 (0 : Fin 1) e b)
        * Ideal.exp2 (m (ix2 (0 : Fin 1) b) - (k0_pay6 m n (ix2 (0 : Fin 1) b) : EReal))
      + ∑ a : Fin 1024, v (ix4 (0 : Fin 1) (0 : Fin 1) e a)
        * Ideal.exp2 (s (ix3 (0 : Fin 1) a b) - (k0_pay6 m n (ix2 (0 : Fin 1) b) : EReal)) := by
  pointwise [k0_pay7]
  rfl

theorem pay8_at (q : Vec Ideal S2048x256 .bf16) (b : Fin 2048) (d : Fin 256) : k0_pay8 q (ix2 b d) = q (ix2 b d) := by
  pointwise [k0_pay8]

theorem pay9_at (e : Fin 144) (b : Fin 2048) : (k0_pay9 (F := Ideal)) (ix3 (0 : Fin 1) e b) = 0 := by
  pointwise [k0_pay9]

theorem pay10_at (b : Fin 2048) : (k0_pay10 (F := Ideal)) (ix2 (0 : Fin 1) b) = (⊥ : EReal) := by
  pointwise [k0_pay10]
  exact minus_infinity

theorem pay2_at (l : FVec Ideal S1x1x2048 .f32) (A : FVec Ideal S1x128x2048 .f32) (e : Fin 128) (b : Fin 2048) :
    (k0_pay2 (F := Ideal) l A (ix2 b e) : EReal) = A (ix3 (0 : Fin 1) e b) * Ideal.div 1 (l (ix3 (0 : Fin 1) (0 : Fin 1) b)) := by
  pointwise [k0_pay2]

theorem kb_at (j : ℕ) (a : Fin 1024) (d : Fin 256) :
    kb x1 j (ix2 a d) = x1 (ix2 (⟨(1024 * j + a.val) % 8192, Nat.mod_lt _ (by decide)⟩ : Fin 8192) d) := rfl

theorem vb_at (j : ℕ) (e : Fin 144) (a : Fin 1024) :
    vb x2 j (ix4 (0 : Fin 1) (0 : Fin 1) e a) = x2 (ix4 (0 : Fin 1) (⟨j % 8, Nat.mod_lt _ (by decide)⟩ : Fin 8) e a) := rfl

/-- The value of key `t` in row `e` of the transposed blocks. -/
def value (e : Fin 144) (t : ℕ) : EReal :=
  x2 (ix4 (0 : Fin 1) (⟨t / 1024 % 8, Nat.mod_lt _ (by decide)⟩ : Fin 8) e (⟨t % 1024, Nat.mod_lt _ (by decide)⟩ : Fin 1024))

theorem vb_value (j : ℕ) (hj : j < 8) (e : Fin 144) (a : Fin 1024) :
    vb x2 j (ix4 (0 : Fin 1) (0 : Fin 1) e a) = value x2 e (1024 * j + a.val) := by
  rw [vb_at]
  unfold value
  have h1 : (1024 * j + a.val) / 1024 % 8 = j % 8 := by have := a.isLt; omega
  have h2 : (1024 * j + a.val) % 1024 = a.val := by have := a.isLt; omega
  simp only [h1, h2]

section Row

variable (b : Fin 2048) (s : ℕ → ℝ)
    (hs : ∀ t : Fin 8192, ∑ d : Fin 256, x1 (ix2 t d) * x0 (ix2 b d) = ((s t.val : ℝ) : EReal))

include hs in
theorem score (j : ℕ) (hj : j < 8) (a : Fin 1024) :
    ∑ d : Fin 256, kb x1 j (ix2 a d) * k0_pay8 x0 (ix2 b d) = ((s (1024 * j + a.val) : ℝ) : EReal) := by
  have h : (1024 * j + a.val) % 8192 = 1024 * j + a.val := by have := a.isLt; omega
  have e := hs ⟨(1024 * j + a.val) % 8192, Nat.mod_lt _ (by decide)⟩
  rw [show ((s (1024 * j + a.val) : ℝ) : EReal) = ((s ((1024 * j + a.val) % 8192) : ℝ) : EReal) by rw [h]]
  refine Eq.trans (Finset.sum_congr rfl fun d _ => ?_) e
  rw [kb_at, pay8_at]

include hs in
/-- The running maximum after a block is a real. -/
theorem mrun_real (j : ℕ) (hj : j < 8) : ∃ r : ℝ, (mrun x0 x1 (j + 1) (ix2 (0 : Fin 1) b) : EReal) = r := by
  have hm : ∀ j, j < 8 → ∃ r : ℝ, (mx x0 x1 j (ix2 (0 : Fin 1) b) : EReal) = r := fun j hj => by
    unfold mx
    rw [pay5_at]
    simp only [score x0 x1 b s hs j hj]
    exact Softmax.fold_max_real _
  induction j with
  | zero =>
    obtain ⟨r, hr⟩ := hm 0 (by omega)
    rw [mrun_succ, pay6_at, hr]
    exact ⟨r, by rw [show mrun x0 x1 0 (ix2 (0 : Fin 1) b) = (⊥ : EReal) from pay10_at b]; simp⟩
  | succ j ih =>
    obtain ⟨r, hr⟩ := hm (j + 1) hj
    obtain ⟨q, hq⟩ := ih (by omega)
    rw [mrun_succ, pay6_at, hr, hq]
    exact Softmax.max_real _ _ (Or.inr ⟨r, rfl⟩)

include hs in
/-- The accumulator after all blocks. -/
theorem arun_eq (e : Fin 144) : (arun x0 x1 x2 8 (ix3 (0 : Fin 1) e b) : EReal)
    = ∑ i ∈ Finset.range 8, ∑ a : Fin 1024, value x2 e (1024 * i + a.val)
      * Ideal.exp2 ((s (1024 * i + a.val) : EReal) - mrun x0 x1 8 (ix2 (0 : Fin 1) b)) :=
  Softmax.running s (value x2 e) (fun j => mrun x0 x1 j (ix2 (0 : Fin 1) b)) (fun j => arun x0 x1 x2 j (ix3 (0 : Fin 1) e b))
    (mrun_real x0 x1 b s hs) (pay9_at e b) (fun j hj => by
      show arun x0 x1 x2 (j + 1) (ix3 (0 : Fin 1) e b) = _
      rw [arun_succ, pay7_at, ← mrun_succ]
      refine congrArg (fun z : EReal => _ + z) (Finset.sum_congr rfl fun a _ => ?_)
      rw [vb_value x2 j hj, sc, pay4_at, score x0 x1 b s hs j hj]) 8 (le_refl 8)

include hs in
/-- What the body writes: each query's weighted sum of the values. -/
theorem outb_eq (r : ℕ → ℝ) (hr : ∀ t, s t = r t * (Real.log 2)⁻¹) (h1 : ∀ t, value x2 (128 : Fin 144) t = 1) (e : Fin 128) :
    (outb x0 x1 x2 (ix2 b e) : EReal)
      = ∑ t : Fin 8192, value x2 (⟨e.val, Nat.lt_trans e.isLt (by decide)⟩ : Fin 144) t.val
        * ((Softmax.weight (fun u => r u.val) t : ℝ) : EReal) := by
  obtain ⟨m, hm⟩ := mrun_real x0 x1 b s hs 7 (by decide)
  unfold outb
  rw [pay2_at]
  show arun x0 x1 x2 8 (ix3 (0 : Fin 1) (⟨e.val, Nat.lt_trans e.isLt (by decide)⟩ : Fin 144) b)
    * Ideal.div 1 (arun x0 x1 x2 8 (ix3 (0 : Fin 1) (128 : Fin 144) b)) = _
  rw [arun_eq x0 x1 x2 b s hs, arun_eq x0 x1 x2 b s hs, show mrun x0 x1 8 (ix2 (0 : Fin 1) b) = (m : EReal) from hm]
  simp only [h1]
  exact Softmax.quotient r s _ m hr

end Row

end Cert.MlaIdeal.Attn

end
-- ==== Proof.MlaBlocks.lean ====
module

public import proofs.«01_k».proof.Proof.MlaValue

@[expose] public section

set_option maxRecDepth 16384

noncomputable section

open Idealize.ShloMosaic Idealize.ShloMosaic.TcCoe Idealize.SL.Sem
open Idealize.ShloMosaic.Pipeline (Dat)

namespace Cert.MlaIdeal.Attn

open Cert.MlaIdeal Cert.MlaIdeal.Gen

variable (m : (ℓ : Loc nD τ sig) → Buf (Elt Ideal) ℓ)

theorem index0 : ∀ t : Fin grid0.N, win0_0.index t = ![4 * (t.val / 64) + t.val % 4, t.val / 4 % 16]
    ∧ win0_1.index t = ![t.val / 64, t.val / 4 % 16]
    ∧ win0_2.index t = ![t.val / 4 % 16, t.val / 64, 0, 0]
    ∧ win0_3.index t = ![4 * (t.val / 64) + t.val % 4, t.val / 4 % 16] := by decide +kernel

theorem lt_points (t : Fin cfg0.N) : t.val < 192 := lt_of_lt_of_eq t.isLt (show cfg0.N = 192 from N_0)

/-- The batch row of a point's query, its head. -/
def rowAt (t : Fin cfg0.N) (y : Fin 2048) : Fin 24576 :=
  ⟨2048 * (4 * (t.val / 64) + t.val % 4) + y.val, by have := lt_points t; omega⟩
def headAt (t : Fin cfg0.N) : Fin 16 := ⟨t.val / 4 % 16, Nat.mod_lt _ (by decide)⟩

/-- The row of key `u` of the sequence row `n` lies in; the column of lane `d` of head `h`; the block of key `u`. -/
def keyRow (n : Fin 24576) (u : Fin 8192) : Fin 24576 := ⟨8192 * (n.val / 8192) + u.val, by omega⟩
def lane (h : Fin 16) (d : Fin 256) : Fin 4096 := ⟨256 * h.val + d.val, by omega⟩
def keyBlock (n : Fin 24576) (u : Fin 8192) : Fin 24 := ⟨8 * (n.val / 8192) + u.val / 1024, by omega⟩
def keyLane (u : Fin 8192) : Fin 1024 := ⟨u.val % 1024, Nat.mod_lt _ (by decide)⟩

theorem query_eq (c : Dev nD) (t : Fin cfg0.N) (y : Fin 2048) (d : Fin 256) :
    (iblk m c 0 t : S2048x256.Idx → EReal) (ix2 y d) = V m c main_v6 (ix2 (rowAt t y) (lane (headAt t) d)) := by
  obtain ⟨e0, e1, e2, e3⟩ := index0 t
  unfold rowAt lane headAt
  blk_point [iblk, e0]

theorem key_row (t : Fin cfg0.N) (y : Fin 2048) (u : Fin 8192) :
    (⟨8192 * (t.val / 64) + u.val, by have := lt_points t; omega⟩ : Fin 24576) = keyRow (rowAt t y) u := by
  have h1 := lt_points t
  have h2 := y.isLt
  unfold keyRow rowAt
  rw [Fin.mk.injEq]
  dsimp only
  omega

theorem key_block (t : Fin cfg0.N) (y : Fin 2048) (u : Fin 8192) :
    (⟨8 * (t.val / 64) + u.val / 1024, by have := lt_points t; omega⟩ : Fin 24) = keyBlock (rowAt t y) u := by
  have h1 := lt_points t
  have h2 := y.isLt
  unfold keyBlock rowAt
  rw [Fin.mk.injEq]
  dsimp only
  omega

theorem key_eq (c : Dev nD) (t : Fin cfg0.N) (u : Fin 8192) (d : Fin 256) :
    (iblk m c 1 t : S8192x256.Idx → EReal) (ix2 u d) = V m c main_v9
      (ix2 (⟨8192 * (t.val / 64) + u.val, by have := lt_points t; omega⟩ : Fin 24576) (lane (headAt t) d)) := by
  obtain ⟨e0, e1, e2, e3⟩ := index0 t
  unfold lane headAt
  blk_point [iblk, e1]

theorem idx4_ext {a b c d : ℕ} {x y : (⟨4, ![a, b, c, d]⟩ : Shape).Idx} (h0 : (x 0).val = (y 0).val) (h1 : (x 1).val = (y 1).val)
    (h2 : (x 2).val = (y 2).val) (h3 : (x 3).val = (y 3).val) : x = y := by
  funext k
  fin_cases k
  · exact Fin.ext h0
  · exact Fin.ext h1
  · exact Fin.ext h2
  · exact Fin.ext h3

theorem block_at (X : S16x24x144x1024.Idx → EReal) (t : Fin cfg0.N) (e : Fin 144) (b : Fin 8) (a : Fin 1024) :
    (((cfg0.win 2).blk t).view.read (Elt Ideal) X : S1x8x144x1024.Idx → EReal) (ix4 (0 : Fin 1) b e a) = X
      (ix4 (headAt t) (⟨8 * (t.val / 64) + b.val, by have := lt_points t; omega⟩ : Fin 24) e a) := by
  obtain ⟨e0, e1, e2, e3⟩ := index0 t
  have g0 : (((View.whole main_v15).slice (win0_2.rect t)).emb (ix4 (0 : Fin 1) b e a) 0 : Nat) = t.val / 4 % 16 * 1 + 0 :=
    (win0_2.rect_emb_val t (ix4 (0 : Fin 1) b e a) 0).trans (by rw [e2]; rfl)
  have g1 : (((View.whole main_v15).slice (win0_2.rect t)).emb (ix4 (0 : Fin 1) b e a) 1 : Nat) = t.val / 64 * 8 + b.val :=
    (win0_2.rect_emb_val t (ix4 (0 : Fin 1) b e a) 1).trans (by rw [e2]; rfl)
  have g2 : (((View.whole main_v15).slice (win0_2.rect t)).emb (ix4 (0 : Fin 1) b e a) 2 : Nat) = 0 * 144 + e.val :=
    (win0_2.rect_emb_val t (ix4 (0 : Fin 1) b e a) 2).trans (by rw [e2]; rfl)
  have g3 : (((View.whole main_v15).slice (win0_2.rect t)).emb (ix4 (0 : Fin 1) b e a) 3 : Nat) = 0 * 1024 + a.val :=
    (win0_2.rect_emb_val t (ix4 (0 : Fin 1) b e a) 3).trans (by rw [e2]; rfl)
  refine congrArg X (?_ : ((View.whole main_v15).slice (win0_2.rect t)).emb (ix4 (0 : Fin 1) b e a) = _)
  refine idx4_ext ?_ ?_ ?_ ?_
  · refine g0.trans ?_
    show _ = t.val / 4 % 16
    omega
  · refine g1.trans ?_
    show _ = 8 * (t.val / 64) + b.val
    omega
  · refine g2.trans ?_
    show _ = e.val
    omega
  · refine g3.trans ?_
    show _ = a.val
    omega

theorem value_at (c : Dev nD) (t : Fin cfg0.N) (e : Fin 144) (b : Fin 8) (a : Fin 1024) :
    (iblk m c 2 t : S1x8x144x1024.Idx → EReal) (ix4 (0 : Fin 1) b e a) = V m c main_v15
      (ix4 (headAt t) (⟨8 * (t.val / 64) + b.val, by have := lt_points t; omega⟩ : Fin 24) e a) :=
  block_at (V m c main_v15) t e b a

theorem value_block (x2 : Vec Ideal S1x8x144x1024 .bf16) (e : Fin 144) (u : Fin 8192) :
    value x2 e u.val = x2 (ix4 (0 : Fin 1) (⟨u.val / 1024, by omega⟩ : Fin 8) e (keyLane u)) := by
  have h : u.val / 1024 % 8 = u.val / 1024 := by have := u.isLt; omega
  unfold value keyLane
  simp only [h]

theorem value_mod (x2 : Vec Ideal S1x8x144x1024 .bf16) (e : Fin 144) (u : ℕ) : value x2 e u = value x2 e (u % 8192) := by
  have q1 : u % 8192 / 1024 % 8 = u / 1024 % 8 := by omega
  have q2 : u % 8192 % 1024 = u % 1024 := by omega
  unfold value
  simp only [q1, q2]

theorem value_eq (c : Dev nD) (t : Fin cfg0.N) (y : Fin 2048) (e : Fin 144) (u : Fin 8192) :
    value (iblk m c 2 t) e u.val = V m c main_v15 (ix4 (headAt t) (keyBlock (rowAt t y) u) e (keyLane u)) := by
  rw [← key_block t y u]
  exact (value_block _ e u).trans (value_at m c t e _ _)

/-- A query's weighted sum of a value column over the keys of its sequence. -/
def attendedAt (v : S16x24x144x1024.Idx → EReal) (r : Fin 24576 → Fin 16 → ℕ → ℝ) (n : Fin 24576) (h : Fin 16) (e : Fin 128) : EReal :=
  ∑ u : Fin 8192, v (ix4 h (keyBlock n u) (⟨e.val, Nat.lt_trans e.isLt (by decide)⟩ : Fin 144) (keyLane u))
    * ((Softmax.weight (fun u => r n h u.val) u : ℝ) : EReal)

def attended (v : S16x24x144x1024.Idx → EReal) (r : Fin 24576 → Fin 16 → ℕ → ℝ) : S24576x2048.Idx → EReal := fun i =>
  attendedAt v r (i 0) (⟨(i 1).val / 128, by have h : (i 1).val < 2048 := (i 1).isLt; omega⟩ : Fin 16)
    (⟨(i 1).val % 128, Nat.mod_lt _ (by decide)⟩ : Fin 128)

theorem attended_at (v : S16x24x144x1024.Idx → EReal) (r : Fin 24576 → Fin 16 → ℕ → ℝ) (i : S24576x2048.Idx)
    (n : Fin 24576) (h : Fin 16) (e : Fin 128) (h0 : (i 0).val = n.val) (h1 : (i 1).val = h.val * 128 + e.val) :
    attended v r i = attendedAt v r n h e := by
  unfold attended
  have a0 : i 0 = n := Fin.ext h0
  have a1 : (⟨(i 1).val / 128, by have h : (i 1).val < 2048 := (i 1).isLt; omega⟩ : Fin 16) = h :=
    Fin.ext (by show (i 1).val / 128 = h.val; omega)
  have a2 : (⟨(i 1).val % 128, Nat.mod_lt _ (by decide)⟩ : Fin 128) = e :=
    Fin.ext (by show (i 1).val % 128 = e.val; omega)
  rw [a1, a2]
  exact congrArg (fun z => attendedAt v r z h e) a0

/-- What the body writes of a query, from blocks that are parts of the arrays. -/
theorem body_eq (x0 : Vec Ideal S2048x256 .bf16) (x1 : Vec Ideal S8192x256 .bf16) (x2 : Vec Ideal S1x8x144x1024 .bf16)
    (q k : S24576x4096.Idx → EReal) (v : S16x24x144x1024.Idx → EReal) (n : Fin 24576) (h : Fin 16) (y : Fin 2048)
    (hq : ∀ d, x0 (ix2 y d) = q (ix2 n (lane h d))) (hk : ∀ u d, x1 (ix2 u d) = k (ix2 (keyRow n u) (lane h d)))
    (hv : ∀ e u, value x2 e u.val = v (ix4 h (keyBlock n u) e (keyLane u)))
    (r s : Fin 24576 → Fin 16 → ℕ → ℝ) (hr : ∀ n h t, s n h t = r n h t * (Real.log 2)⁻¹)
    (hs : ∀ n h (u : Fin 8192), ∑ d : Fin 256, k (ix2 (keyRow n u) (lane h d)) * q (ix2 n (lane h d)) = ((s n h u.val : ℝ) : EReal))
    (h1 : ∀ (h : Fin 16) (b : Fin 24) (a : Fin 1024), v (ix4 h b (128 : Fin 144) a) = 1) (e : Fin 128) :
    (outb x0 x1 x2 (ix2 y e) : EReal) = attendedAt v r n h e := by
  refine (outb_eq x0 x1 x2 y (s n h) (fun u => ?_) (r n h) (hr n h) (fun u => ?_) e).trans ?_
  · refine Eq.trans (Finset.sum_congr rfl fun d _ => ?_) (hs n h u)
    rw [hq, hk]
  · rw [value_mod]
    exact (hv 128 ⟨u % 8192, Nat.mod_lt _ (by decide)⟩).trans (h1 _ _ _)
  · unfold attendedAt
    exact Finset.sum_congr rfl fun u _ => by rw [hv]

theorem covers3 : (cfg0.win 3).Covers := by decide +kernel

def column (h : Fin 16) (e : Fin 128) : Fin 2048 := ⟨h.val * 128 + e.val, by omega⟩

/-- An array whose blocks are what the points leave. -/
theorem array_eq (c : Dev nD) (D : Dat τ (Elt Ideal) Unit ℕ (UR sig nD τ) ℕ cfg0 c) (O : Fin cfg0.N → S2048x128.Idx → EReal)
    (hO : ∀ t, D.after 3 t = O t) (G : S24576x2048.Idx → EReal)
    (hG : ∀ t y e, O t (ix2 y e) = G (ix2 (rowAt t y) (column (headAt t) e))) : D.arrAt 3 cfg0.N = G := by
  refine D.arrAt_eq_of_covers 3 _ covers3 fun t hf y => ?_
  blk_simp
  rw [hO]
  idx_vars y
  have e3 := (index0 t).2.2.2
  refine (hG t y0 y1).trans ?_
  unfold rowAt column headAt
  refine congrArg G (Eq.symm ?_)
  blk_ext [e3]

/-- The call writes the attention, where the scores are reals and the 129th row of the values is ones. -/
theorem attended_eq (c : Dev nD) (q k : S24576x4096.Idx → EReal) (v : S16x24x144x1024.Idx → EReal)
    (hq : V m c main_v6 = q) (hk : V m c main_v9 = k) (hv : V m c main_v15 = v)
    (r s : Fin 24576 → Fin 16 → ℕ → ℝ) (hr : ∀ n h t, s n h t = r n h t * (Real.log 2)⁻¹)
    (hs : ∀ n h (u : Fin 8192), ∑ d : Fin 256, k (ix2 (keyRow n u) (lane h d)) * q (ix2 n (lane h d)) = ((s n h u.val : ℝ) : EReal))
    (h1 : ∀ (h : Fin 16) (b : Fin 24) (a : Fin 1024), v (ix4 h b (128 : Fin 144) a) = 1) :
    (dats m 0 c).arrAt 3 cfg0.N = attended v r := by
  refine array_eq c (dats m 0 c) (fun t => outb (iblk m c 0 t) (iblk m c 1 t) (iblk m c 2 t)) (after0_3 m c) _ fun t y e => ?_
  refine Eq.trans ?_ (attended_at v r _ (rowAt t y) (headAt t) e rfl rfl).symm
  refine body_eq _ _ _ q k v (rowAt t y) (headAt t) y (fun d => ?_) (fun u d => ?_) (fun e u => ?_) r s hr hs h1 e
  · rw [← hq]
    exact query_eq m c t y d
  · rw [← hk, ← key_row t y u]
    exact key_eq m c t u d
  · rw [← hv]
    exact value_eq m c t y e u

end Cert.MlaIdeal.Attn

end
-- ==== Proof.MlaEntries.lean ====
module

public import proofs.«01_k».proof.Proof.MlaBlocks

@[expose] public section

set_option maxRecDepth 16384

noncomputable section

open Idealize.ShloMosaic Idealize.ShloMosaic.TcCoe Idealize.SL.Sem
open Idealize.ShloMosaic.Pipeline (Dat)

namespace Cert.MlaIdeal.Attn

open Cert.MlaIdeal Cert.MlaIdeal.Gen

/-- The scale of the scores. -/
def scale : ℝ := (Ideal.ofBits .f32 0x3D93CD3A#32 : EReal).toReal

theorem scale_eq : (Ideal.ofBits .f32 0x3D93CD3A#32 : EReal) = (scale : EReal) := by
  have h : ∃ c : ℝ, (Ideal.ofBits .f32 0x3D93CD3A#32 : EReal) = (c : EReal) := by
    unfold Ideal.ofBits Ideal.ieee
    dsimp only
    rw [if_neg (by decide), if_neg (by decide)]
    exact ⟨_, rfl⟩
  obtain ⟨c, hc⟩ := h
  unfold scale
  rw [hc, EReal.toReal_coe]

theorem log_two : Ideal.log (Ideal.ofBits .f32 0x40000000#32) = (Real.log 2 : ℝ) := by
  have h : (Ideal.ofBits .f32 0x40000000#32 : EReal) = ((2 : ℝ) : EReal) := by
    simp [Ideal.ofBits, Ideal.ieee]
    rw [← EReal.coe_mul]
    refine congrArg (fun z : ℝ => (z : EReal)) ?_
    rw [show (8388608 : ℝ) = 2 * 2 ^ 22 by ring, mul_assoc, mul_inv_cancel₀ (by positivity), mul_one]
  rw [h]
  show (if (2 : ℝ) ≤ 0 then (⊥ : EReal) else (Real.log 2 : ℝ)) = _
  rw [if_neg (by simp)]

theorem gain_eq : Ideal.div (Ideal.ofBits .f32 0x3D93CD3A#32) (Ideal.log (Ideal.ofBits .f32 0x40000000#32))
    = ((scale * (Real.log 2)⁻¹ : ℝ) : EReal) := by
  rw [scale_eq, log_two, Softmax.div_real _ _ (Real.log_pos (by simp)), EReal.coe_mul]

def gain : FVec Ideal S_ .f32 := Host.divf (constant S_ .f32 0x3D93CD3A#32) (Host.log (constant S_ .f32 0x40000000#32))
def lanesOf (x : FVec Ideal S3x8192x16x192 .f32) : FVec Ideal S24576x4096 .bf16 :=
  truncf .bf16 (shapeCast S24576x4096 (pad S3x8192x16x256 ![0, 0, 0, 0] ![0, 0, 0, 64] ![0, 0, 0, 0] x
    (sitofp .f32 (constantI S_ 32 0#32)) pads_S3x8192x16x192_S3x8192x16x256_000_000_000_0640 h_S_)
    shapeCasts_S3x8192x16x256_S24576x4096) bitsLt_bf16_f32
def scaled (x : FVec Ideal S3x8192x16x192 .f32) : FVec Ideal S3x8192x16x192 .f32 :=
  mulf x (broadcastInDim S3x8192x16x192 ![] bcast_S_S3x8192x16x192 gain)
def valuesOf (x : FVec Ideal S3x8192x16x128 .f32) : FVec Ideal S16x24x144x1024 .bf16 :=
  truncf .bf16 (transpose S16x24x144x1024 [2, 0, 3, 1] (shapeCast S24x1024x16x144 (pad S3x8192x16x144 ![0, 0, 0, 0] ![0, 0, 0, 15] ![0, 0, 0, 0]
    (concatenate S3x8192x16x129 3 [⟨S3x8192x16x128, x⟩, ⟨S3x8192x16x1, broadcastInDim S3x8192x16x1 ![] bcast_S_S3x8192x16x1 (constant S_ .f32 0x3F800000#32)⟩]
      concatenates_S3x8192x16x128_S3x8192x16x1_S3x8192x16x129_d3)
    (sitofp .f32 (constantI S_ 32 0#32)) pads_S3x8192x16x129_S3x8192x16x144_000_000_000_0150 h_S_)
    shapeCasts_S3x8192x16x144_S24x1024x16x144) transposes_S24x1024x16x144_S16x24x144x1024_2_0_3_1) bitsLt_bf16_f32

section
variable (m : (ℓ : Loc nD τ sig) → Buf (Elt Ideal) ℓ)

theorem query_entry (c : Dev nD) : V m c main_v6 = lanesOf (scaled (m ((c : Thread nD τ).loc main_arg0))) := by
  unfold lanesOf scaled gain
  show StableHlo.after (List.flatten [hostOps0, hostOps0_1, hostOps0_2, hostOps0_3, hostOps0_4, hostOps0_5, hostOps0_6]) _ (Proc.devRef .tc main_v6) = _
  simp only [hostOps0, hostOps0_1, hostOps0_2, hostOps0_3, hostOps0_4, hostOps0_5, hostOps0_6, List.flatten_cons, List.flatten_nil, List.append_nil, List.cons_append, List.nil_append]
  after_results_simp
  refine congrArg (fun z : FVec Ideal S24576x4096 .f32 => truncf .bf16 z bitsLt_bf16_f32) ?_
  refine congrArg (fun z : FVec Ideal S3x8192x16x256 .f32 => shapeCast S24576x4096 z shapeCasts_S3x8192x16x256_S24576x4096) ?_
  refine congrArg₂ (fun (z : FVec Ideal S3x8192x16x192 .f32) (w : FVec Ideal S_ .f32) => pad S3x8192x16x256 ![0, 0, 0, 0] ![0, 0, 0, 64] ![0, 0, 0, 0] z w
    pads_S3x8192x16x192_S3x8192x16x256_000_000_000_0640 h_S_) ?_ ?_
  · rfl
  · rfl

theorem key_entry (c : Dev nD) : V m c main_v9 = lanesOf (m ((c : Thread nD τ).loc main_arg1)) := by
  unfold lanesOf
  show StableHlo.after (List.flatten [hostOps0, hostOps0_1, hostOps0_2, hostOps0_3, hostOps0_4, hostOps0_5, hostOps0_6]) _ (Proc.devRef .tc main_v9) = _
  simp only [hostOps0, hostOps0_1, hostOps0_2, hostOps0_3, hostOps0_4, hostOps0_5, hostOps0_6, List.flatten_cons, List.flatten_nil, List.append_nil, List.cons_append, List.nil_append]
  after_results_simp
  refine congrArg (fun z : FVec Ideal S24576x4096 .f32 => truncf .bf16 z bitsLt_bf16_f32) ?_
  refine congrArg (fun z : FVec Ideal S3x8192x16x256 .f32 => shapeCast S24576x4096 z shapeCasts_S3x8192x16x256_S24576x4096) ?_
  refine congrArg₂ (fun (z : FVec Ideal S3x8192x16x192 .f32) (w : FVec Ideal S_ .f32) => pad S3x8192x16x256 ![0, 0, 0, 0] ![0, 0, 0, 64] ![0, 0, 0, 0] z w
    pads_S3x8192x16x192_S3x8192x16x256_000_000_000_0640 h_S_) ?_ ?_
  · rfl
  · rfl

theorem value_entry (c : Dev nD) : V m c main_v15 = valuesOf (m ((c : Thread nD τ).loc main_arg2)) := by
  unfold valuesOf
  show StableHlo.after (List.flatten [hostOps0, hostOps0_1, hostOps0_2, hostOps0_3, hostOps0_4, hostOps0_5, hostOps0_6]) _ (Proc.devRef .tc main_v15) = _
  simp only [hostOps0, hostOps0_1, hostOps0_2, hostOps0_3, hostOps0_4, hostOps0_5, hostOps0_6, List.flatten_cons, List.flatten_nil, List.append_nil, List.cons_append, List.nil_append]
  after_results_simp
  refine congrArg (fun z : FVec Ideal S16x24x144x1024 .f32 => truncf .bf16 z bitsLt_bf16_f32) ?_
  refine congrArg (fun z : FVec Ideal S24x1024x16x144 .f32 => transpose S16x24x144x1024 [2, 0, 3, 1] z transposes_S24x1024x16x144_S16x24x144x1024_2_0_3_1) ?_
  refine congrArg (fun z : FVec Ideal S3x8192x16x144 .f32 => shapeCast S24x1024x16x144 z shapeCasts_S3x8192x16x144_S24x1024x16x144) ?_
  refine congrArg₂ (fun (z : FVec Ideal S3x8192x16x129 .f32) (w : FVec Ideal S_ .f32) => pad S3x8192x16x144 ![0, 0, 0, 0] ![0, 0, 0, 15] ![0, 0, 0, 0] z w
    pads_S3x8192x16x129_S3x8192x16x144_000_000_000_0150 h_S_) ?_ ?_
  · rfl
  · rfl

end

def seqOf (n : Fin 24576) : Fin 3 := ⟨n.val / 8192, by omega⟩
def posOf (n : Fin 24576) : Fin 8192 := ⟨n.val % 8192, Nat.mod_lt _ (by decide)⟩

theorem zero_entry : (FloatOps.sitofp (F := Ideal) .f32 (0#32) : EReal) = 0 := by
  show (((0#32 : BitVec 32).toInt : ℝ) : EReal) = 0
  simp

theorem scaled_at (x : FVec Ideal S3x8192x16x192 .f32) (b : Fin 3) (r : Fin 8192) (h : Fin 16) (d : Fin 192) :
    (scaled x (ix4 b r h d) : EReal) = x (ix4 b r h d) * ((scale * (Real.log 2)⁻¹ : ℝ) : EReal) := by
  rw [← gain_eq]
  pointwise [scaled, gain]

theorem lanesOf_at (x : FVec Ideal S3x8192x16x192 .f32) (n : Fin 24576) (h : Fin 16) (d : Fin 256) :
    (lanesOf x (ix2 n (lane h d)) : EReal) = if hd : d.val < 192 then x (ix4 (seqOf n) (posOf n) h ⟨d.val, hd⟩) else 0 := by
  unfold lane seqOf posOf
  pointwise [lanesOf]
  by_cases hd : d.val < 192
  · rw [dif_pos hd]
    exact dif_pos (⟨by omega, by omega, hd⟩ : n.val / 8192 < 3 ∧ n.val % 8192 < 8192 ∧ d.val < 192)
  · rw [dif_neg hd]
    exact (dif_neg (fun h => hd h.2.2)).trans zero_entry

theorem valuesOf_at (x : FVec Ideal S3x8192x16x128 .f32) (h : Fin 16) (n : Fin 24576) (u : Fin 8192) (e : Fin 128) :
    (valuesOf x (ix4 h (keyBlock n u) (⟨e.val, Nat.lt_trans e.isLt (by decide)⟩ : Fin 144) (keyLane u)) : EReal) = x (ix4 (seqOf n) u h e) := by
  unfold keyBlock keyLane seqOf
  pointwise [valuesOf]
  rw [dif_pos ⟨by omega, by omega⟩]
  exact congrArg (fun z => x (ix4 z u h e)) (Fin.ext (by dsimp only; omega))

theorem valuesOf_ones (x : FVec Ideal S3x8192x16x128 .f32) (h : Fin 16) (b : Fin 24) (a : Fin 1024) :
    (valuesOf x (ix4 h b (128 : Fin 144) a) : EReal) = 1 := by
  pointwise [valuesOf]
  exact dif_pos ⟨by omega, by omega⟩

end Cert.MlaIdeal.Attn

end
-- ==== Proof.MlaTie.lean ====
module

public import proofs.«01_k».proof.Proof.MlaEntries
public import proofs.«01_k».proof.Pre_finite
public import proofs.«01_k».proof.Proof.Gen.MlaReferenceIdeal.Run
public import proofs.«01_k».proof.Proof.Gen.MlaReferenceIdeal.Read

@[expose] public section

set_option maxRecDepth 16384

noncomputable section

open Idealize.ShloMosaic Idealize.ShloMosaic.TcCoe Idealize.SL.Sem

namespace Cert.MlaIdeal.Attn

/-- An array of reals. -/
def Reals (x : Cert.MlaIdeal.S3x8192x16x192.Idx → EReal) : Prop := ∀ i, x i = ((x i).toReal : EReal)

theorem infinity : Ideal.ofBits .f32 0x7F800000#32 = (⊤ : EReal) := by
  simp [Ideal.ofBits, Ideal.ieee]

theorem real_of_abs (x : EReal) (h : BitVec.ofBool (decide (max x (-x) < Ideal.ofBits .f32 0x7F800000#32)) = 1#1) : x = (x.toReal : EReal) := by
  have h' : max x (-x) < ⊤ := by
    by_contra hn
    rw [infinity, decide_eq_false hn] at h
    exact absurd h (by decide)
  have ht : x ≠ ⊤ := fun e => by simp [e] at h'
  have hb : x ≠ ⊥ := fun e => by simp [e] at h'
  exact (EReal.coe_toReal ht hb).symm

theorem reals0 [Cert.Pre_finite.Facts] (x0 x1 : FVec Ideal Cert.Pre_finite.S3x8192x16x192 .f32) (x2 : FVec Ideal Cert.Pre_finite.S3x8192x16x128 .f32)
    (h : (Cert.Pre_finite.fn x0 x1 x2).1 = fun _ => 1#1) : Reals x0 := fun i => by
  have e := congrFun h i
  refine real_of_abs _ (Eq.trans ?_ e)
  unfold Cert.Pre_finite.fn
  dsimp only
  idx_vars i
  pointwise []
  rfl

theorem reals1 [Cert.Pre_finite.Facts] (x0 x1 : FVec Ideal Cert.Pre_finite.S3x8192x16x192 .f32) (x2 : FVec Ideal Cert.Pre_finite.S3x8192x16x128 .f32)
    (h : (Cert.Pre_finite.fn x0 x1 x2).2 = fun _ => 1#1) : Reals x1 := fun i => by
  have e := congrFun h i
  refine real_of_abs _ (Eq.trans ?_ e)
  unfold Cert.Pre_finite.fn
  dsimp only
  idx_vars i
  pointwise []
  rfl

section
open Cert.MlaIdeal Cert.MlaIdeal.Gen

/-- The score of a key for a query's row and head. -/
def argScore (x0 x1 : S3x8192x16x192.Idx → EReal) (n : Fin 24576) (h : Fin 16) (t : ℕ) : ℝ :=
  (∑ d : Fin 192, (x0 (ix4 (seqOf n) (posOf n) h d)).toReal
    * (x1 (ix4 (seqOf n) (⟨t % 8192, Nat.mod_lt _ (by decide)⟩ : Fin 8192) h d)).toReal) * scale

theorem key_seq (n : Fin 24576) (u : Fin 8192) : seqOf (keyRow n u) = seqOf n :=
  Fin.ext (by unfold seqOf keyRow; dsimp only; omega)
theorem key_pos (n : Fin 24576) (u : Fin 8192) : posOf (keyRow n u) = u :=
  Fin.ext (by unfold posOf keyRow; dsimp only; omega)

/-- The call's scores, of the padded lanes, are the reference's by the logarithm of two. -/
theorem scores_eq (x0 x1 : S3x8192x16x192.Idx → EReal) (h0 : Reals x0) (h1 : Reals x1) (n : Fin 24576) (h : Fin 16) (u : Fin 8192) :
    ∑ d : Fin 256, (lanesOf x1 : S24576x4096.Idx → EReal) (ix2 (keyRow n u) (lane h d))
        * (lanesOf (scaled x0) : S24576x4096.Idx → EReal) (ix2 n (lane h d))
      = ((argScore x0 x1 n h u.val * (Real.log 2)⁻¹ : ℝ) : EReal) := by
  have e := Fin.sum_univ_add (a := 192) (b := 64) fun d : Fin 256 => (lanesOf x1 : S24576x4096.Idx → EReal) (ix2 (keyRow n u) (lane h d))
        * (lanesOf (scaled x0) : S24576x4096.Idx → EReal) (ix2 n (lane h d))
  refine e.trans ?_
  rw [Finset.sum_eq_zero (s := Finset.univ) (f := fun k : Fin 64 => (lanesOf x1 : S24576x4096.Idx → EReal) (ix2 (keyRow n u) (lane h (Fin.natAdd 192 k)))
        * (lanesOf (scaled x0) : S24576x4096.Idx → EReal) (ix2 n (lane h (Fin.natAdd 192 k)))), add_zero]
  · unfold argScore
    rw [Finset.sum_mul, Finset.sum_mul, Softmax.coe_sum]
    refine Finset.sum_congr rfl fun d _ => ?_
    have hd : (Fin.castAdd 64 d).val < 192 := d.isLt
    rw [lanesOf_at, lanesOf_at, dif_pos hd, dif_pos hd, scaled_at, key_seq, key_pos]
    have hu : (⟨u.val % 8192, Nat.mod_lt _ (by decide)⟩ : Fin 8192) = u := Fin.ext (Nat.mod_eq_of_lt u.isLt)
    rw [hu, h0 (ix4 (seqOf n) (posOf n) h _), h1 (ix4 (seqOf n) u h _), ← EReal.coe_mul, ← EReal.coe_mul]
    refine congrArg (fun z : ℝ => (z : EReal)) ?_
    show (x1 (ix4 (seqOf n) u h d)).toReal * ((x0 (ix4 (seqOf n) (posOf n) h d)).toReal * (scale * (Real.log 2)⁻¹)) = _
    ring
  · intro k _
    have hk : ¬ (Fin.natAdd 192 k).val < 192 := by show ¬ (192 + k.val < 192); omega
    rw [lanesOf_at, dif_neg hk, zero_mul]

/-- The attention of the arguments. -/
def attention (x0 x1 : S3x8192x16x192.Idx → EReal) (x2 : S3x8192x16x128.Idx → EReal) (n : Fin 24576) (h : Fin 16) (e : Fin 128) : EReal :=
  ∑ u : Fin 8192, x2 (ix4 (seqOf n) u h e) * ((Softmax.weight (fun u => argScore x0 x1 n h u.val) u : ℝ) : EReal)

def result (x0 x1 : S3x8192x16x192.Idx → EReal) (x2 : S3x8192x16x128.Idx → EReal) : S24576x2048.Idx → EReal := fun i =>
  attention x0 x1 x2 (i 0) (⟨(i 1).val / 128, by have h : (i 1).val < 2048 := (i 1).isLt; omega⟩ : Fin 16)
    (⟨(i 1).val % 128, Nat.mod_lt _ (by decide)⟩ : Fin 128)

theorem attended_result (x0 x1 : S3x8192x16x192.Idx → EReal) (x2 : S3x8192x16x128.Idx → EReal) :
    attended (valuesOf x2) (argScore x0 x1) = result x0 x1 x2 := by
  funext i
  unfold attended result attendedAt attention
  exact Finset.sum_congr rfl fun u _ => congrArg₂ (· * ·) (valuesOf_at x2 _ _ u _) rfl

variable (m : (ℓ : Loc nD τ sig) → Buf (Elt Ideal) ℓ) (ρ : Dev nD → PrngReg)

theorem result_eq (c : Dev nD) (h0 : Reals (m ((c : Thread nD τ).loc main_arg0))) (h1 : Reals (m ((c : Thread nD τ).loc main_arg1))) :
    (dats m 0 c).arrAt 3 cfg0.N = result (m ((c : Thread nD τ).loc main_arg0)) (m ((c : Thread nD τ).loc main_arg1)) (m ((c : Thread nD τ).loc main_arg2)) := by
  rw [← attended_result]
  exact attended_eq m c _ _ _ (query_entry m c) (key_entry m c) (value_entry m c) _ (fun n h t => argScore _ _ n h t * (Real.log 2)⁻¹)
    (fun _ _ _ => rfl) (scores_eq _ _ h0 h1) (valuesOf_ones _)

/-- The run, with the output and the arguments named. -/
theorem run (h : ∀ c : Dev nD, Reals (m ((c : Thread nD τ).loc main_arg0)) ∧ Reals (m ((c : Thread nD τ).loc main_arg1))) :
    θ_run defs (onTc (τ := τ) (main (F := Ideal))) ⟨m, fun _ => 0, ρ⟩ fun r => ∀ c : Dev nD,
      r.2.mem ((c : Thread nD τ).loc main_v16) = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨((hr.1 c).1 3).trans (result_eq m c (h c).1 (h c).2), hr.2.1 c⟩)
    (θ_run_and (run_main m ρ) (frame m ρ))

end

end Cert.MlaIdeal.Attn

end
-- ==== Proof.MlaReference.lean ====
module

public import proofs.«01_k».proof.Proof.MlaTie

@[expose] public section

set_option maxRecDepth 16384

noncomputable section

open Idealize.ShloMosaic Idealize.ShloMosaic.TcCoe Idealize.SL.Sem

namespace Cert.MlaIdeal.Attn

open Cert.MlaReferenceIdeal Cert.MlaReferenceIdeal.Value Cert.MlaReferenceIdeal.Read

variable (x0 x1 : (⟨S3x8192x16x192, .f32⟩ : BufTy).Contents (Elt Ideal)) (x2 : (⟨S3x8192x16x128, .f32⟩ : BufTy).Contents (Elt Ideal))

theorem maxima_at (b : Fin 3) (h : Fin 16) (r : Fin 8192) :
    (val_main_v3 (F := Ideal) x0 x1 (ix3 b h r) : EReal)
      = Finset.univ.fold max (Ideal.ofBits .f32 0xFF800000#32) fun u : Fin 8192 => (val_main_v2 (F := Ideal) x0 x1 (ix4 b h r u) : EReal) := by
  unfold val_main_v3 val_main_cst_0
  generalize val_main_v2 (F := Ideal) x0 x1 = y
  pointwise []

/-- The reference's score is the real one. -/
theorem reference_score (h0 : Reals x0) (h1 : Reals x1) (n : Fin 24576) (h : Fin 16) (u : Fin 8192) :
    (val_main_v2 (F := Ideal) x0 x1 (ix4 (seqOf n) h (posOf n) u) : EReal) = ((argScore x0 x1 n h u.val : ℝ) : EReal) := by
  have e : (val_main_v2 (F := Ideal) x0 x1 (ix4 (seqOf n) h (posOf n) u) : EReal)
      = (∑ d : Fin 192, (x0 (ix4 (seqOf n) (posOf n) h d) : EReal) * (x1 (ix4 (seqOf n) u h d) : EReal)) * Ideal.ofBits .f32 0x3D93CD3A#32 := by
    rw [val_main_v2_apply, val_main_v0_apply, val_main_v1_apply, val_main_cst_apply]
    refine congrArg (fun z : EReal => z * Ideal.ofBits .f32 0x3D93CD3A#32) (Finset.sum_congr rfl fun d _ => congrArg₂ (· * ·) (congrArg x0 ?_) (congrArg x1 ?_))
    · funext a; fin_cases a <;> rfl
    · funext a; fin_cases a <;> rfl
  rw [e, scale_eq]
  unfold argScore
  rw [EReal.coe_mul, Softmax.coe_sum]
  refine congrArg (fun z : EReal => z * (scale : EReal)) (Finset.sum_congr rfl fun d _ => ?_)
  have hu : (⟨u.val % 8192, Nat.mod_lt _ (by decide)⟩ : Fin 8192) = u := Fin.ext (Nat.mod_eq_of_lt u.isLt)
  rw [hu, EReal.coe_mul]
  exact congrArg₂ (· * ·) (h0 _) (h1 _)

/-- The largest score of a row is real. -/
theorem reference_bound (h0 : Reals x0) (h1 : Reals x1) (n : Fin 24576) (h : Fin 16) :
    ∃ b : ℝ, (val_main_v5 (F := Ideal) x0 x1 (ix3 (seqOf n) h (posOf n)) : EReal) = (b : EReal) := by
  obtain ⟨b, hb⟩ := Softmax.fold_max_real fun u : Fin 8192 => argScore x0 x1 n h u.val
  refine ⟨b, ?_⟩
  rw [val_main_v5_apply, val_main_v4_apply, val_main_cst_1_apply]
  have e : (val_main_v3 (F := Ideal) x0 x1 (ix3 (seqOf n) h (posOf n)) : EReal) = (b : EReal) := by
    rw [maxima_at, minus_infinity, ← hb]
    exact congrArg (fun f : Fin 8192 → EReal => Finset.univ.fold max ⊥ f) (funext fun u => reference_score x0 x1 h0 h1 n h u)
  show max (Ideal.ofBits .f32 0xFF800000#32) (val_main_v3 (F := Ideal) x0 x1 (ix3 (seqOf n) h (posOf n)) : EReal) = _
  rw [e, minus_infinity]
  exact max_eq_right bot_le

theorem exponential_at (h0 : Reals x0) (h1 : Reals x1) (n : Fin 24576) (h : Fin 16) (b : ℝ)
    (hb : (val_main_v5 (F := Ideal) x0 x1 (ix3 (seqOf n) h (posOf n)) : EReal) = (b : EReal)) (u : Fin 8192) :
    (val_main_v9 (F := Ideal) x0 x1 (ix4 (seqOf n) h (posOf n) u) : EReal) = Ideal.exp (((argScore x0 x1 n h u.val : ℝ) : EReal) - (b : EReal)) := by
  have e : (val_main_v7 (F := Ideal) x0 x1 (ix4 (seqOf n) h (posOf n) u) : EReal) = (b : EReal) := by
    rw [val_main_v7_apply, val_main_v6_apply, ← hb]
    refine congrArg (val_main_v5 (F := Ideal) x0 x1) ?_
    funext a; fin_cases a <;> rfl
  rw [val_main_v9_apply, val_main_v8_apply]
  exact congrArg Ideal.exp (congrArg₂ (fun x y : EReal => x - y) (reference_score x0 x1 h0 h1 n h u) e)

/-- The reference's weight is the softmax weight of the real scores. -/
theorem weight_at (h0 : Reals x0) (h1 : Reals x1) (n : Fin 24576) (h : Fin 16) (u : Fin 8192) :
    (val_main_v13 (F := Ideal) x0 x1 (ix4 (seqOf n) h (posOf n) u) : EReal)
      = ((Softmax.weight (fun u => argScore x0 x1 n h u.val) u : ℝ) : EReal) := by
  obtain ⟨b, hb⟩ := reference_bound x0 x1 h0 h1 n h
  rw [← Softmax.reference_weight (fun u => argScore x0 x1 n h u.val) b u, val_main_v13_apply]
  refine congrArg₂ Ideal.div (exponential_at x0 x1 h0 h1 n h b hb u) ?_
  rw [val_main_v12_apply, val_main_v11_apply, val_main_v10_apply]
  have z : ∀ i, (val_main_cst_2 (F := Ideal) i : EReal) = 0 := fun i => by
    rw [val_main_cst_2_apply]
    exact Ideal.ofBits_zero .f32
  refine (congrArg₂ (fun x y : EReal => x + y) (z _) (Finset.sum_congr rfl fun k _ => ?_)).trans (zero_add _)
  rw [← exponential_at x0 x1 h0 h1 n h b hb k]
  refine congrArg (val_main_v9 (F := Ideal) x0 x1) ?_
  funext a; fin_cases a <;> rfl

/-- The reference's composed term is the attention of the same arrays. -/
theorem reference_eq (h0 : Reals x0) (h1 : Reals x1) :
    (val_main_v17 (F := Ideal) x0 x1 x2 : S24576x2048.Idx → EReal) = result x0 x1 x2 := by
  funext i
  idx_vars i
  rw [val_main_v17_apply, val_main_v16_apply, val_main_v15_apply]
  refine (val_main_v14_apply x0 x1 x2 _).trans ?_
  unfold result attention
  refine Finset.sum_congr rfl fun u _ => congrArg₂ (· * ·) (congrArg x2 ?_) (Eq.trans (congrArg (val_main_v13 (F := Ideal) x0 x1) ?_) (weight_at x0 x1 h0 h1 _ _ u))
  · funext a
    fin_cases a
    · exact Fin.ext (by show (i0.val * 2048 + i1.val) / 16777216 = i0.val / 8192; omega)
    · rfl
    · exact Fin.ext (by show (i0.val * 2048 + i1.val) / 128 % 16 = i1.val / 128; omega)
    · exact Fin.ext (by show (i0.val * 2048 + i1.val) % 128 = i1.val % 128; omega)
  · funext a
    fin_cases a
    · exact Fin.ext (by show (i0.val * 2048 + i1.val) / 16777216 = i0.val / 8192; omega)
    · exact Fin.ext (by show (i0.val * 2048 + i1.val) / 128 % 16 = i1.val / 128; omega)
    · exact Fin.ext (by show (i0.val * 2048 + i1.val) / 2048 % 8192 = i0.val % 8192; omega)
    · rfl

end Cert.MlaIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Up.Frame
public import proofs.«01_k».proof.Proof.Gen.UpIdeal.Frame
public import proofs.«01_k».proof.Proof.Gen.Down.Frame
public import proofs.«01_k».proof.Proof.Gen.DownIdeal.Frame
public import proofs.«01_k».proof.Proof.Gen.UpReferenceIdeal.Run
public import proofs.«01_k».proof.Proof.Gen.UpReferenceIdeal.Read
public import proofs.«01_k».proof.Proof.Gen.DownReferenceIdeal.Run
public import proofs.«01_k».proof.Proof.Gen.DownReferenceIdeal.Read
public import proofs.«01_k».proof.Proof.Gen.DownIdeal.Value
public import proofs.«01_k».proof.Proof.Gen.Out.Frame
public import proofs.«01_k».proof.Proof.Gen.OutIdeal.Frame
public import proofs.«01_k».proof.Proof.Gen.OutReferenceIdeal.Run
public import proofs.«01_k».proof.Proof.Gen.OutReferenceIdeal.Read
public import proofs.«01_k».proof.Proof.Gen.Vt.Frame
public import proofs.«01_k».proof.Proof.Gen.VtIdeal.Frame
public import proofs.«01_k».proof.Proof.Gen.VtReferenceIdeal.Run
public import proofs.«01_k».proof.Proof.Gen.VtReferenceIdeal.Read
public import proofs.«01_k».proof.Proof.Gen.Latent.Frame
public import proofs.«01_k».proof.Proof.Gen.LatentIdeal.Frame
public import proofs.«01_k».proof.Proof.Gen.LatentReferenceIdeal.Run
public import proofs.«01_k».proof.Proof.Gen.LatentReferenceIdeal.Read
public import proofs.«01_k».proof.Proof.Gen.DownTwo.Frame
public import proofs.«01_k».proof.Proof.Gen.DownTwoIdeal.Frame
public import proofs.«01_k».proof.Proof.Gen.DownTwoReferenceIdeal.Run
public import proofs.«01_k».proof.Proof.Gen.DownTwoReferenceIdeal.Read
public import proofs.«01_k».proof.Proof.Gen.Mla.Loops
public import proofs.«01_k».proof.Proof.Gen.MlaIdeal.Loops
public import proofs.«01_k».proof.Proof.Gen.Mla.Skeleton
public import proofs.«01_k».proof.Proof.Gen.MlaIdeal.Skeleton
public import proofs.«01_k».proof.Proof.Gen.Mla.Frame
public import proofs.«01_k».proof.Proof.Gen.MlaIdeal.Frame
public import proofs.«01_k».proof.Proof.Gen.MlaReferenceIdeal.Run
public import proofs.«01_k».proof.Proof.Gen.MlaReferenceIdeal.Read
public import proofs.«01_k».proof.Proof.MergeRun
public import proofs.«01_k».proof.Proof.DownTwoBody
public import proofs.«01_k».proof.Proof.DownTwoIdealBody
public import proofs.«01_k».proof.Proof.MergeTie
public import proofs.«01_k».proof.Proof.UpRun
public import proofs.«01_k».proof.Proof.UpTie
public import proofs.«01_k».proof.Proof.DownTie
public import proofs.«01_k».proof.Proof.OutRun
public import proofs.«01_k».proof.Proof.OutTie
public import proofs.«01_k».proof.Proof.VtRun
public import proofs.«01_k».proof.Proof.VtTie
public import proofs.«01_k».proof.Proof.LatentRun
public import proofs.«01_k».proof.Proof.LatentTie
public import proofs.«01_k».proof.Proof.DownTwoTie
public import proofs.«01_k».proof.Proof.MlaBody
public import proofs.«01_k».proof.Proof.MlaIdealBody
public import proofs.«01_k».proof.Proof.MlaReference
public import Idealize.ShloMosaic.Adequacy
public import Idealize.ShloMosaic.Init

@[expose] public section

noncomputable section

namespace Cert.Proof

open Idealize.ShloMosaic Idealize.ShloMosaic.TcCoe Idealize.SL.Sem

/-- The merge: the kernel and its reference end with the same array. -/
theorem merge_algebraic : @algebraic_KernelIdeal_ReferenceIdeal Cert.KernelIdeal.Gen.facts Cert.ReferenceIdeal.Gen.facts := by
  intro m ρ m' ρ' _ hagree
  refine ⟨fun c => Cert.KernelIdeal.Merge.result m c,
    (θ_run _ _ _).mono (fun _ h => h.1) (Cert.KernelIdeal.Merge.run m ρ), ?_⟩
  refine (θ_run _ _ _).mono (fun r h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v31_eq, h0, h1, h2, h3, h4, h5, h6, h7]
  exact Cert.KernelIdeal.Merge.reference_eq _ _ _ _ _ _ _ _

/-- The FFN's gated product: the kernel and its reference end with the same array. -/
theorem up_algebraic : @algebraic_UpIdeal_UpReferenceIdeal Cert.UpIdeal.Gen.facts Cert.UpReferenceIdeal.Gen.facts := by
  intro m ρ m' ρ' _ hagree
  refine ⟨fun c => Cert.UpIdeal.Ffn.result m c,
    (θ_run _ _ _).mono (fun _ h => h.1) (Cert.UpIdeal.Ffn.run m ρ), ?_⟩
  refine (θ_run _ _ _).mono (fun r h c => ⟨(h c).1.trans ?_, (h c).2⟩)
    (Cert.UpReferenceIdeal.Value.run (F := Ideal) m' ρ')
  obtain ⟨h0, h1, h2, h3⟩ := hagree c
  rw [Cert.UpReferenceIdeal.Read.val_main_v24_eq, h0, h1, h2, h3]
  exact Cert.UpIdeal.Ffn.reference_eq _ _ _ _

/-- The FFN's residual: the kernel and its reference end with the same array. -/
theorem down_algebraic : @algebraic_DownIdeal_DownReferenceIdeal Cert.DownIdeal.Gen.facts Cert.DownReferenceIdeal.Gen.facts := by
  intro m ρ m' ρ' _ hagree
  refine ⟨fun c => Cert.DownIdeal.Ffn.result m c,
    (θ_run _ _ _).mono (fun _ h c => ⟨(h c).1.trans (Cert.DownIdeal.Ffn.result_eq m c), (h c).2⟩) (Cert.DownIdeal.Value.run_blocks m ρ), ?_⟩
  refine (θ_run _ _ _).mono (fun r h c => ⟨(h c).1.trans ?_, (h c).2⟩)
    (Cert.DownReferenceIdeal.Value.run (F := Ideal) m' ρ')
  obtain ⟨h0, h1, h2⟩ := hagree c
  rw [Cert.DownReferenceIdeal.Read.val_main_v7_eq, h0, h1, h2]
  exact Cert.DownIdeal.Ffn.reference_eq _ _ _

/-- The output projection: the kernel and its reference end with the same array. -/
theorem out_algebraic : @algebraic_OutIdeal_OutReferenceIdeal Cert.OutIdeal.Gen.facts Cert.OutReferenceIdeal.Gen.facts := by
  intro m ρ m' ρ' _ hagree
  refine ⟨fun c => Cert.OutIdeal.Proj.result m c,
    (θ_run _ _ _).mono (fun _ h => h.1) (Cert.OutIdeal.Proj.run m ρ), ?_⟩
  refine (θ_run _ _ _).mono (fun r h c => ⟨(h c).1.trans ?_, (h c).2⟩)
    (Cert.OutReferenceIdeal.Value.run (F := Ideal) m' ρ')
  obtain ⟨h0, h1, h2⟩ := hagree c
  rw [Cert.OutReferenceIdeal.Read.val_main_v4_eq, h0, h1, h2]
  exact Cert.OutIdeal.Proj.reference_eq _ _ _

/-- The differential attention's values: the kernel and its reference end with the same array. -/
theorem vt_algebraic : @algebraic_VtIdeal_VtReferenceIdeal Cert.VtIdeal.Gen.facts Cert.VtReferenceIdeal.Gen.facts := by
  intro m ρ m' ρ' _ hagree
  refine ⟨fun c => Cert.VtIdeal.Values.result m c,
    (θ_run _ _ _).mono (fun _ h => h.1) (Cert.VtIdeal.Values.run m ρ), ?_⟩
  refine (θ_run _ _ _).mono (fun r h c => ⟨(h c).1.trans ?_, (h c).2⟩)
    (Cert.VtReferenceIdeal.Value.run (F := Ideal) m' ρ')
  obtain ⟨h0, h1⟩ := hagree c
  rw [Cert.VtReferenceIdeal.Read.val_main_v7_eq, h0, h1]
  exact Cert.VtIdeal.Values.reference_eq _ _

/-- The latent attention's down-projections: the kernel and its reference end with the same array. -/
theorem latent_algebraic : @algebraic_LatentIdeal_LatentReferenceIdeal Cert.LatentIdeal.Gen.facts Cert.LatentReferenceIdeal.Gen.facts := by
  intro m ρ m' ρ' _ hagree
  refine ⟨fun c => Cert.LatentIdeal.Proj.result m c,
    (θ_run _ _ _).mono (fun _ h => h.1) (Cert.LatentIdeal.Proj.run m ρ), ?_⟩
  refine (θ_run _ _ _).mono (fun r h c => ⟨(h c).1.trans ?_, (h c).2⟩)
    (Cert.LatentReferenceIdeal.Value.run (F := Ideal) m' ρ')
  obtain ⟨h0, h1⟩ := hagree c
  rw [Cert.LatentReferenceIdeal.Read.val_main_v5_eq, h0, h1]
  exact Cert.LatentIdeal.Proj.reference_eq _ _

/-- The last FFN's residual, with the model's two results: the kernel and its reference end with the same arrays. -/
theorem down_two_algebraic : @algebraic_DownTwoIdeal_DownTwoReferenceIdeal Cert.DownTwoIdeal.Gen.facts Cert.DownTwoReferenceIdeal.Gen.facts := by
  intro m ρ m' ρ' _ hagree
  refine ⟨fun c => Cert.DownTwoIdeal.Ffn.result0 m c, fun c => Cert.DownTwoIdeal.Ffn.result1 m c,
    Cert.DownTwoIdeal.Ffn.run m ρ, ?_⟩
  refine (θ_run _ _ _).mono (fun r h c => ⟨(h c).1.trans ?_, (h c).2.1.trans ?_, (h c).2.2⟩)
    (Cert.DownTwoReferenceIdeal.Value.run (F := Ideal) m' ρ')
  · obtain ⟨h0, h1, h2⟩ := hagree c
    rw [Cert.DownTwoReferenceIdeal.Read.val_main_v8_eq, h0, h1, h2]
    exact Cert.DownTwoIdeal.Ffn.reference0_eq _ _ _
  · obtain ⟨h0, h1, h2⟩ := hagree c
    rw [Cert.DownTwoReferenceIdeal.Read.val_main_v9_eq, h0, h1, h2]
    exact Cert.DownTwoIdeal.Ffn.reference1_eq _ _ _

/-- The side condition of the precondition's comparison. -/
theorem finite_facts : Cert.Pre_finite.Facts := ⟨by decide⟩

/-- The latent attention: of finite queries and keys, the kernel and its reference end with the same array. -/
theorem mla_algebraic : @algebraic_MlaIdeal_MlaReferenceIdeal_pre_finite Cert.MlaIdeal.Gen.facts Cert.MlaReferenceIdeal.Gen.facts finite_facts := by
  intro m ρ m' ρ' hpre hagree
  have hfin := fun c => And.intro (@Cert.MlaIdeal.Attn.reals0 finite_facts _ _ _ (hpre c).1) (@Cert.MlaIdeal.Attn.reals1 finite_facts _ _ _ (hpre c).2)
  refine ⟨fun c => Cert.MlaIdeal.Attn.result _ _ _, Cert.MlaIdeal.Attn.run m ρ hfin, ?_⟩
  refine (θ_run _ _ _).mono (fun r h c => ⟨(h c).1.trans ?_, (h c).2⟩)
    (Cert.MlaReferenceIdeal.Value.run (F := Ideal) m' ρ')
  obtain ⟨h0, h1, h2⟩ := hagree c
  rw [Cert.MlaReferenceIdeal.Read.val_main_v17_eq, h0, h1, h2]
  exact Cert.MlaIdeal.Attn.reference_eq _ _ _ (hfin c).1 (hfin c).2

/-- Everything claimed. -/
theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Out.Gen.facts, Cert.OutIdeal.Gen.facts, Cert.OutReferenceIdeal.Gen.facts,
  Cert.Vt.Gen.facts, Cert.VtIdeal.Gen.facts, Cert.VtReferenceIdeal.Gen.facts,
  Cert.Latent.Gen.facts, Cert.LatentIdeal.Gen.facts, Cert.LatentReferenceIdeal.Gen.facts,
  Cert.DownTwo.Gen.facts, Cert.DownTwoIdeal.Gen.facts, Cert.DownTwoReferenceIdeal.Gen.facts,
  Cert.Mla.Gen.facts, Cert.MlaIdeal.Gen.facts, Cert.MlaReferenceIdeal.Gen.facts, finite_facts,
  fun m ρ _ => Cert.Kernel.Gen.frame m ρ, fun m ρ _ => Cert.KernelIdeal.Gen.frame m ρ,
  fun m ρ _ => (θ_run _ _ _).mono (fun r h => ⟨fun c => (h c).2, sem_eq_zero_of_no_sems (by decide) r.2⟩)
    (Cert.ReferenceIdeal.Value.run (F := Ideal) m ρ),
  fun m ρ _ => Cert.Up.Gen.frame m ρ, fun m ρ _ => Cert.UpIdeal.Gen.frame m ρ,
  fun m ρ _ => (θ_run _ _ _).mono (fun r h => ⟨fun c => (h c).2, sem_eq_zero_of_no_sems (by decide) r.2⟩)
    (Cert.UpReferenceIdeal.Value.run (F := Ideal) m ρ),
  fun m ρ _ => Cert.Down.Gen.frame m ρ, fun m ρ _ => Cert.DownIdeal.Gen.frame m ρ,
  fun m ρ _ => (θ_run _ _ _).mono (fun r h => ⟨fun c => (h c).2, sem_eq_zero_of_no_sems (by decide) r.2⟩)
    (Cert.DownReferenceIdeal.Value.run (F := Ideal) m ρ),
  fun m ρ _ => Cert.Out.Gen.frame m ρ, fun m ρ _ => Cert.OutIdeal.Gen.frame m ρ,
  fun m ρ _ => (θ_run _ _ _).mono (fun r h => ⟨fun c => (h c).2, sem_eq_zero_of_no_sems (by decide) r.2⟩)
    (Cert.OutReferenceIdeal.Value.run (F := Ideal) m ρ),
  fun m ρ _ => Cert.Vt.Gen.frame m ρ, fun m ρ _ => Cert.VtIdeal.Gen.frame m ρ,
  fun m ρ _ => (θ_run _ _ _).mono (fun r h => ⟨fun c => (h c).2, sem_eq_zero_of_no_sems (by decide) r.2⟩)
    (Cert.VtReferenceIdeal.Value.run (F := Ideal) m ρ),
  fun m ρ _ => Cert.Latent.Gen.frame m ρ, fun m ρ _ => Cert.LatentIdeal.Gen.frame m ρ,
  fun m ρ _ => (θ_run _ _ _).mono (fun r h => ⟨fun c => (h c).2, sem_eq_zero_of_no_sems (by decide) r.2⟩)
    (Cert.LatentReferenceIdeal.Value.run (F := Ideal) m ρ),
  fun m ρ _ => Cert.DownTwo.Gen.frame m ρ, fun m ρ _ => Cert.DownTwoIdeal.Gen.frame m ρ,
  fun m ρ _ => (θ_run _ _ _).mono (fun r h => ⟨fun c => (h c).2.2, sem_eq_zero_of_no_sems (by decide) r.2⟩)
    (Cert.DownTwoReferenceIdeal.Value.run (F := Ideal) m ρ),
  fun m ρ _ => Cert.Mla.Gen.frame m ρ, fun m ρ _ => Cert.MlaIdeal.Gen.frame m ρ, fun m ρ _ => Cert.MlaIdeal.Gen.frame m ρ,
  fun m ρ _ => (θ_run _ _ _).mono (fun r h => ⟨fun c => (h c).2, sem_eq_zero_of_no_sems (by decide) r.2⟩)
    (Cert.MlaReferenceIdeal.Value.run (F := Ideal) m ρ),
  fun m ρ _ => (θ_run _ _ _).mono (fun r h => ⟨fun c => (h c).2, sem_eq_zero_of_no_sems (by decide) r.2⟩)
    (Cert.MlaReferenceIdeal.Value.run (F := Ideal) m ρ),
  trivial, merge_algebraic, trivial, up_algebraic, trivial, down_algebraic, trivial, out_algebraic, trivial, vt_algebraic, trivial, latent_algebraic, trivial, down_two_algebraic, trivial, mla_algebraic⟩

end Cert.Proof

end
